-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 8192]⟩ ⟨2, ![8192, 8192]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 1024]⟩ ⟨2, ![8192, 4096]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![8192, 1024]⟩ ⟨2, ![8192, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S8192x1024 : Shape := ⟨2, ![8192, 1024]⟩
abbrev S8192x8192 : Shape := ⟨2, ![8192, 8192]⟩
abbrev S512x8192 : Shape := ⟨2, ![512, 8192]⟩
abbrev S512x1024 : Shape := ⟨2, ![512, 1024]⟩
abbrev S2x3 : Shape := ⟨2, ![2, 3]⟩
abbrev S_ : Shape := ⟨0, ![]⟩
abbrev S1x1 : Shape := ⟨2, ![1, 1]⟩
abbrev S1024x8192 : Shape := ⟨2, ![1024, 8192]⟩

abbrev nBuf : Space → Nat
  | .hbm => 4
  | .vmem => 3
  | .smem => 0
  | _ => 0

abbrev bufTy : (tb : Table) → Fin (tcTables nBuf tb) → BufTy
  | .hbm, ⟨0, _⟩ => ⟨S2048x8192, .f32⟩
  | .hbm, ⟨1, _⟩ => ⟨S8192x1024, .f32⟩
  | .hbm, ⟨2, _⟩ => ⟨S8192x1024, .f32⟩
  | .hbm, ⟨3, _⟩ => ⟨S8192x8192, .f32⟩
  | .local _ .vmem, ⟨0, _⟩ => ⟨S8192x1024, .f32⟩
  | .local _ .vmem, ⟨1, _⟩ => ⟨S512x8192, .f32⟩
  | .local _ .vmem, ⟨2, _⟩ => ⟨S512x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v13 : BitVec 32 := Scalar.muli v2 c2048_i32
  let c0_i32_17 : BitVec 32 := 0#32
  ![v13.toNat, 0]
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_15 : BitVec 32 := 1#32
  let v16 : BitVec 32 := Scalar.muli v7 c1_i32_15
  let v17 : BitVec 32 := Scalar.addi c0_i32_16 v16
  v17.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_10 : BitVec 32 := 2048#32
  let v14 : BitVec 32 := Scalar.muli v2 c2048_i32_10
  let c1024_i32 : BitVec 32 := 1024#32
  let v15 : BitVec 32 := Scalar.addi v14 c1024_i32
  let c0_i32_26 : BitVec 32 := 0#32
  ![v15.toNat, 0]
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_24 : BitVec 32 := 1#32
  let v24 : BitVec 32 := Scalar.muli v5 c1_i32_24
  let v25 : BitVec 32 := Scalar.addi c0_i32_25 v24
  v25.toNat
@[reducible] def k0_t1_loop : Scf.Loop 32 :=
  let c0_i32_30 : BitVec 32 := 0#32
  let c4_i32_31 : BitVec 32 := 4#32
  let v33 : BitVec 32 := Scalar.addi c0_i32_30 c4_i32_31
  let c1_i32_32 : BitVec 32 := 1#32
  ⟨c0_i32_30, v33, c1_i32_32⟩
def k0_off3 (k0_t1 : Fin k0_t1_loop.trips) : Fin 2 → Nat :=
  let c0_i32_212 : BitVec 32 := 0#32
  let c0_i32_30 : BitVec 32 := 0#32
  let c1_i32_32 : BitVec 32 := 1#32
  let arg10 : BitVec 32 := Scf.iv c0_i32_30 c1_i32_32 k0_t1
  let c512_i32 : BitVec 32 := 512#32
  let v162 : BitVec 32 := Scalar.muli arg10 c512_i32
  let v163 : BitVec 32 := Scalar.addi c0_i32_212 v162
  let c0_i32_214 : BitVec 32 := 0#32
  ![v163.toNat, 0]
def k0_off4 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_29 : BitVec 32 := 2048#32
  let v32 : BitVec 32 := Scalar.muli v2 c2048_i32_29
  let c0_i32_30 : BitVec 32 := 0#32
  let c1_i32_32 : BitVec 32 := 1#32
  let arg10 : BitVec 32 := Scf.iv c0_i32_30 c1_i32_32 k0_t1
  let c512_i32_213 : BitVec 32 := 512#32
  let v164 : BitVec 32 := Scalar.muli arg10 c512_i32_213
  let v165 : BitVec 32 := Scalar.addi v32 v164
  let c0_i32_222 : BitVec 32 := 0#32
  ![v165.toNat, 0]
def k0_off5 (d0 : Dev nD) (c0_i32_36 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_34 : BitVec 32 := 4#32
  let v34 : BitVec 32 := Scalar.addi v2 c4_i32_34
  let c1_i32_35 : BitVec 32 := 1#32
  let v35 : BitVec 32 := Scalar.subi v34 c1_i32_35
  let v36 : BitVec 32 := Scalar.subi v35 c0_i32_36
  let c4_i32_37 : BitVec 32 := 4#32
  let v37 : BitVec 32 := Scalar.remsi v36 c4_i32_37
  let c2048_i32_41 : BitVec 32 := 2048#32
  let v41 : BitVec 32 := Scalar.muli v37 c2048_i32_41
  let c0_i32_50 : BitVec 32 := 0#32
  ![v41.toNat, 0]
def k0_off6 (d0 : Dev nD) (c0_i32_39 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_38 : BitVec 32 := 1#32
  let v38 : BitVec 32 := Scalar.addi v2 c1_i32_38
  let v39 : BitVec 32 := Scalar.addi v38 c0_i32_39
  let c4_i32_40 : BitVec 32 := 4#32
  let v40 : BitVec 32 := Scalar.remsi v39 c4_i32_40
  let c2048_i32_42 : BitVec 32 := 2048#32
  let v42 : BitVec 32 := Scalar.muli v40 c2048_i32_42
  let c1024_i32_43 : BitVec 32 := 1024#32
  let v43 : BitVec 32 := Scalar.addi v42 c1024_i32_43
  let c0_i32_58 : BitVec 32 := 0#32
  ![v43.toNat, 0]
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_64 : BitVec 32 := 1#32
  let v56 : BitVec 32 := Scalar.muli v7 c1_i32_64
  let v57 : BitVec 32 := Scalar.addi c0_i32_65 v56
  v57.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_72 : BitVec 32 := 1#32
  let v64 : BitVec 32 := Scalar.muli v5 c1_i32_72
  let v65 : BitVec 32 := Scalar.addi c0_i32_73 v64
  v65.toNat
@[reducible] def k0_t2_loop : Scf.Loop 32 :=
  let c0_i32_76 : BitVec 32 := 0#32
  let c2_i32_77 : BitVec 32 := 2#32
  let v72 : BitVec 32 := Scalar.addi c0_i32_76 c2_i32_77
  let c1_i32_78 : BitVec 32 := 1#32
  ⟨c0_i32_76, v72, c1_i32_78⟩
def k0_off7 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_34 : BitVec 32 := 4#32
  let v34 : BitVec 32 := Scalar.addi v2 c4_i32_34
  let c1_i32_35 : BitVec 32 := 1#32
  let v35 : BitVec 32 := Scalar.subi v34 c1_i32_35
  let c0_i32_36 : BitVec 32 := 0#32
  let v36 : BitVec 32 := Scalar.subi v35 c0_i32_36
  let c4_i32_37 : BitVec 32 := 4#32
  let v37 : BitVec 32 := Scalar.remsi v36 c4_i32_37
  let c2048_i32_41 : BitVec 32 := 2048#32
  let v41 : BitVec 32 := Scalar.muli v37 c2048_i32_41
  let c0_i32_76 : BitVec 32 := 0#32
  let c1_i32_78 : BitVec 32 := 1#32
  let arg10 : BitVec 32 := Scf.iv c0_i32_76 c1_i32_78 k0_t2
  let c512_i32 : BitVec 32 := 512#32
  let v162 : BitVec 32 := Scalar.muli arg10 c512_i32
  let v163 : BitVec 32 := Scalar.addi v41 v162
  let c0_i32_213 : BitVec 32 := 0#32
  ![v163.toNat, 0]
def k0_off8 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_34 : BitVec 32 := 4#32
  let v34 : BitVec 32 := Scalar.addi v2 c4_i32_34
  let c1_i32_35 : BitVec 32 := 1#32
  let v35 : BitVec 32 := Scalar.subi v34 c1_i32_35
  let c0_i32_36 : BitVec 32 := 0#32
  let v36 : BitVec 32 := Scalar.subi v35 c0_i32_36
  let c4_i32_37 : BitVec 32 := 4#32
  let v37 : BitVec 32 := Scalar.remsi v36 c4_i32_37
  let c2048_i32_41 : BitVec 32 := 2048#32
  let v41 : BitVec 32 := Scalar.muli v37 c2048_i32_41
  let c0_i32_76 : BitVec 32 := 0#32
  let c1_i32_78 : BitVec 32 := 1#32
  let arg10 : BitVec 32 := Scf.iv c0_i32_76 c1_i32_78 k0_t2
  let c512_i32_212 : BitVec 32 := 512#32
  let v164 : BitVec 32 := Scalar.muli arg10 c512_i32_212
  let v165 : BitVec 32 := Scalar.addi v41 v164
  let c0_i32_221 : BitVec 32 := 0#32
  ![v165.toNat, 0]
@[reducible] def k0_t3_loop : Scf.Loop 32 :=
  let c0_i32_80 : BitVec 32 := 0#32
  let c2_i32_81 : BitVec 32 := 2#32
  let v73 : BitVec 32 := Scalar.addi c0_i32_80 c2_i32_81
  let c1_i32_82 : BitVec 32 := 1#32
  ⟨c0_i32_80, v73, c1_i32_82⟩
def k0_off9 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_38 : BitVec 32 := 1#32
  let v38 : BitVec 32 := Scalar.addi v2 c1_i32_38
  let c0_i32_39 : BitVec 32 := 0#32
  let v39 : BitVec 32 := Scalar.addi v38 c0_i32_39
  let c4_i32_40 : BitVec 32 := 4#32
  let v40 : BitVec 32 := Scalar.remsi v39 c4_i32_40
  let c2048_i32_42 : BitVec 32 := 2048#32
  let v42 : BitVec 32 := Scalar.muli v40 c2048_i32_42
  let c1024_i32_43 : BitVec 32 := 1024#32
  let v43 : BitVec 32 := Scalar.addi v42 c1024_i32_43
  let c0_i32_80 : BitVec 32 := 0#32
  let c1_i32_82 : BitVec 32 := 1#32
  let arg10 : BitVec 32 := Scf.iv c0_i32_80 c1_i32_82 k0_t3
  let c512_i32 : BitVec 32 := 512#32
  let v162 : BitVec 32 := Scalar.muli arg10 c512_i32
  let v163 : BitVec 32 := Scalar.addi v43 v162
  let c0_i32_213 : BitVec 32 := 0#32
  ![v163.toNat, 0]
def k0_off10 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_38 : BitVec 32 := 1#32
  let v38 : BitVec 32 := Scalar.addi v2 c1_i32_38
  let c0_i32_39 : BitVec 32 := 0#32
  let v39 : BitVec 32 := Scalar.addi v38 c0_i32_39
  let c4_i32_40 : BitVec 32 := 4#32
  let v40 : BitVec 32 := Scalar.remsi v39 c4_i32_40
  let c2048_i32_42 : BitVec 32 := 2048#32
  let v42 : BitVec 32 := Scalar.muli v40 c2048_i32_42
  let c1024_i32_43 : BitVec 32 := 1024#32
  let v43 : BitVec 32 := Scalar.addi v42 c1024_i32_43
  let c0_i32_80 : BitVec 32 := 0#32
  let c1_i32_82 : BitVec 32 := 1#32
  let arg10 : BitVec 32 := Scf.iv c0_i32_80 c1_i32_82 k0_t3
  let c512_i32_212 : BitVec 32 := 512#32
  let v164 : BitVec 32 := Scalar.muli arg10 c512_i32_212
  let v165 : BitVec 32 := Scalar.addi v43 v164
  let c0_i32_221 : BitVec 32 := 0#32
  ![v165.toNat, 0]
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_114 : BitVec 32 := 1#32
  let v96 : BitVec 32 := Scalar.muli v7 c1_i32_114
  let v97 : BitVec 32 := Scalar.addi c0_i32_115 v96
  v97.toNat
def k0_dev8 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_122 : BitVec 32 := 1#32
  let v104 : BitVec 32 := Scalar.muli v5 c1_i32_122
  let v105 : BitVec 32 := Scalar.addi c0_i32_123 v104
  v105.toNat
@[reducible] def k0_t4_loop : Scf.Loop 32 :=
  let c0_i32_126 : BitVec 32 := 0#32
  let c2_i32_127 : BitVec 32 := 2#32
  let v112 : BitVec 32 := Scalar.addi c0_i32_126 c2_i32_127
  let c1_i32_128 : BitVec 32 := 1#32
  ⟨c0_i32_126, v112, c1_i32_128⟩
def k0_off11 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_84 : BitVec 32 := 4#32
  let v74 : BitVec 32 := Scalar.addi v2 c4_i32_84
  let c1_i32_85 : BitVec 32 := 1#32
  let v75 : BitVec 32 := Scalar.subi v74 c1_i32_85
  let c1_i32_86 : BitVec 32 := 1#32
  let v76 : BitVec 32 := Scalar.subi v75 c1_i32_86
  let c4_i32_87 : BitVec 32 := 4#32
  let v77 : BitVec 32 := Scalar.remsi v76 c4_i32_87
  let c2048_i32_91 : BitVec 32 := 2048#32
  let v81 : BitVec 32 := Scalar.muli v77 c2048_i32_91
  let c0_i32_126 : BitVec 32 := 0#32
  let c1_i32_128 : BitVec 32 := 1#32
  let arg10 : BitVec 32 := Scf.iv c0_i32_126 c1_i32_128 k0_t4
  let c512_i32 : BitVec 32 := 512#32
  let v162 : BitVec 32 := Scalar.muli arg10 c512_i32
  let v163 : BitVec 32 := Scalar.addi v81 v162
  let c0_i32_213 : BitVec 32 := 0#32
  ![v163.toNat, 0]
def k0_off12 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_84 : BitVec 32 := 4#32
  let v74 : BitVec 32 := Scalar.addi v2 c4_i32_84
  let c1_i32_85 : BitVec 32 := 1#32
  let v75 : BitVec 32 := Scalar.subi v74 c1_i32_85
  let c1_i32_86 : BitVec 32 := 1#32
  let v76 : BitVec 32 := Scalar.subi v75 c1_i32_86
  let c4_i32_87 : BitVec 32 := 4#32
  let v77 : BitVec 32 := Scalar.remsi v76 c4_i32_87
  let c2048_i32_91 : BitVec 32 := 2048#32
  let v81 : BitVec 32 := Scalar.muli v77 c2048_i32_91
  let c0_i32_126 : BitVec 32 := 0#32
  let c1_i32_128 : BitVec 32 := 1#32
  let arg10 : BitVec 32 := Scf.iv c0_i32_126 c1_i32_128 k0_t4
  let c512_i32_212 : BitVec 32 := 512#32
  let v164 : BitVec 32 := Scalar.muli arg10 c512_i32_212
  let v165 : BitVec 32 := Scalar.addi v81 v164
  let c0_i32_221 : BitVec 32 := 0#32
  ![v165.toNat, 0]
@[reducible] def k0_t5_loop : Scf.Loop 32 :=
  let c0_i32_130 : BitVec 32 := 0#32
  let c2_i32_131 : BitVec 32 := 2#32
  let v113 : BitVec 32 := Scalar.addi c0_i32_130 c2_i32_131
  let c1_i32_132 : BitVec 32 := 1#32
  ⟨c0_i32_130, v113, c1_i32_132⟩
def k0_off13 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_88 : BitVec 32 := 1#32
  let v78 : BitVec 32 := Scalar.addi v2 c1_i32_88
  let c1_i32_89 : BitVec 32 := 1#32
  let v79 : BitVec 32 := Scalar.addi v78 c1_i32_89
  let c4_i32_90 : BitVec 32 := 4#32
  let v80 : BitVec 32 := Scalar.remsi v79 c4_i32_90
  let c2048_i32_92 : BitVec 32 := 2048#32
  let v82 : BitVec 32 := Scalar.muli v80 c2048_i32_92
  let c1024_i32_93 : BitVec 32 := 1024#32
  let v83 : BitVec 32 := Scalar.addi v82 c1024_i32_93
  let c0_i32_130 : BitVec 32 := 0#32
  let c1_i32_132 : BitVec 32 := 1#32
  let arg10 : BitVec 32 := Scf.iv c0_i32_130 c1_i32_132 k0_t5
  let c512_i32 : BitVec 32 := 512#32
  let v162 : BitVec 32 := Scalar.muli arg10 c512_i32
  let v163 : BitVec 32 := Scalar.addi v83 v162
  let c0_i32_213 : BitVec 32 := 0#32
  ![v163.toNat, 0]
def k0_off14 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_88 : BitVec 32 := 1#32
  let v78 : BitVec 32 := Scalar.addi v2 c1_i32_88
  let c1_i32_89 : BitVec 32 := 1#32
  let v79 : BitVec 32 := Scalar.addi v78 c1_i32_89
  let c4_i32_90 : BitVec 32 := 4#32
  let v80 : BitVec 32 := Scalar.remsi v79 c4_i32_90
  let c2048_i32_92 : BitVec 32 := 2048#32
  let v82 : BitVec 32 := Scalar.muli v80 c2048_i32_92
  let c1024_i32_93 : BitVec 32 := 1024#32
  let v83 : BitVec 32 := Scalar.addi v82 c1024_i32_93
  let c0_i32_130 : BitVec 32 := 0#32
  let c1_i32_132 : BitVec 32 := 1#32
  let arg10 : BitVec 32 := Scf.iv c0_i32_130 c1_i32_132 k0_t5
  let c512_i32_212 : BitVec 32 := 512#32
  let v164 : BitVec 32 := Scalar.muli arg10 c512_i32_212
  let v165 : BitVec 32 := Scalar.addi v83 v164
  let c0_i32_221 : BitVec 32 := 0#32
  ![v165.toNat, 0]
@[reducible] def k0_t6_loop : Scf.Loop 32 :=
  let c0_i32_160 : BitVec 32 := 0#32
  let c2_i32_161 : BitVec 32 := 2#32
  let v136 : BitVec 32 := Scalar.addi c0_i32_160 c2_i32_161
  let c1_i32_162 : BitVec 32 := 1#32
  ⟨c0_i32_160, v136, c1_i32_162⟩
def k0_off15 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_134 : BitVec 32 := 4#32
  let v114 : BitVec 32 := Scalar.addi v2 c4_i32_134
  let c1_i32_135 : BitVec 32 := 1#32
  let v115 : BitVec 32 := Scalar.subi v114 c1_i32_135
  let c2_i32_136 : BitVec 32 := 2#32
  let v116 : BitVec 32 := Scalar.subi v115 c2_i32_136
  let c4_i32_137 : BitVec 32 := 4#32
  let v117 : BitVec 32 := Scalar.remsi v116 c4_i32_137
  let c2048_i32_141 : BitVec 32 := 2048#32
  let v121 : BitVec 32 := Scalar.muli v117 c2048_i32_141
  let c0_i32_160 : BitVec 32 := 0#32
  let c1_i32_162 : BitVec 32 := 1#32
  let arg10 : BitVec 32 := Scf.iv c0_i32_160 c1_i32_162 k0_t6
  let c512_i32 : BitVec 32 := 512#32
  let v162 : BitVec 32 := Scalar.muli arg10 c512_i32
  let v163 : BitVec 32 := Scalar.addi v121 v162
  let c0_i32_213 : BitVec 32 := 0#32
  ![v163.toNat, 0]
def k0_off16 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_134 : BitVec 32 := 4#32
  let v114 : BitVec 32 := Scalar.addi v2 c4_i32_134
  let c1_i32_135 : BitVec 32 := 1#32
  let v115 : BitVec 32 := Scalar.subi v114 c1_i32_135
  let c2_i32_136 : BitVec 32 := 2#32
  let v116 : BitVec 32 := Scalar.subi v115 c2_i32_136
  let c4_i32_137 : BitVec 32 := 4#32
  let v117 : BitVec 32 := Scalar.remsi v116 c4_i32_137
  let c2048_i32_141 : BitVec 32 := 2048#32
  let v121 : BitVec 32 := Scalar.muli v117 c2048_i32_141
  let c0_i32_160 : BitVec 32 := 0#32
  let c1_i32_162 : BitVec 32 := 1#32
  let arg10 : BitVec 32 := Scf.iv c0_i32_160 c1_i32_162 k0_t6
  let c512_i32_212 : BitVec 32 := 512#32
  let v164 : BitVec 32 := Scalar.muli arg10 c512_i32_212
  let v165 : BitVec 32 := Scalar.addi v121 v164
  let c0_i32_221 : BitVec 32 := 0#32
  ![v165.toNat, 0]
@[reducible] def k0_t7_loop : Scf.Loop 32 :=
  let c0_i32_164 : BitVec 32 := 0#32
  let c2_i32_165 : BitVec 32 := 2#32
  let v137 : BitVec 32 := Scalar.addi c0_i32_164 c2_i32_165
  let c1_i32_166 : BitVec 32 := 1#32
  ⟨c0_i32_164, v137, c1_i32_166⟩
def k0_off17 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_138 : BitVec 32 := 1#32
  let v118 : BitVec 32 := Scalar.addi v2 c1_i32_138
  let c2_i32_139 : BitVec 32 := 2#32
  let v119 : BitVec 32 := Scalar.addi v118 c2_i32_139
  let c4_i32_140 : BitVec 32 := 4#32
  let v120 : BitVec 32 := Scalar.remsi v119 c4_i32_140
  let c2048_i32_142 : BitVec 32 := 2048#32
  let v122 : BitVec 32 := Scalar.muli v120 c2048_i32_142
  let c1024_i32_143 : BitVec 32 := 1024#32
  let v123 : BitVec 32 := Scalar.addi v122 c1024_i32_143
  let c0_i32_164 : BitVec 32 := 0#32
  let c1_i32_166 : BitVec 32 := 1#32
  let arg10 : BitVec 32 := Scf.iv c0_i32_164 c1_i32_166 k0_t7
  let c512_i32 : BitVec 32 := 512#32
  let v162 : BitVec 32 := Scalar.muli arg10 c512_i32
  let v163 : BitVec 32 := Scalar.addi v123 v162
  let c0_i32_213 : BitVec 32 := 0#32
  ![v163.toNat, 0]
def k0_off18 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_138 : BitVec 32 := 1#32
  let v118 : BitVec 32 := Scalar.addi v2 c1_i32_138
  let c2_i32_139 : BitVec 32 := 2#32
  let v119 : BitVec 32 := Scalar.addi v118 c2_i32_139
  let c4_i32_140 : BitVec 32 := 4#32
  let v120 : BitVec 32 := Scalar.remsi v119 c4_i32_140
  let c2048_i32_142 : BitVec 32 := 2048#32
  let v122 : BitVec 32 := Scalar.muli v120 c2048_i32_142
  let c1024_i32_143 : BitVec 32 := 1024#32
  let v123 : BitVec 32 := Scalar.addi v122 c1024_i32_143
  let c0_i32_164 : BitVec 32 := 0#32
  let c1_i32_166 : BitVec 32 := 1#32
  let arg10 : BitVec 32 := Scf.iv c0_i32_164 c1_i32_166 k0_t7
  let c512_i32_212 : BitVec 32 := 512#32
  let v164 : BitVec 32 := Scalar.muli arg10 c512_i32_212
  let v165 : BitVec 32 := Scalar.addi v123 v164
  let c0_i32_221 : BitVec 32 := 0#32
  ![v165.toNat, 0]
abbrev stage0_0 : Fin 1 → Memref sig .tc .vmem S8192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Common.lean ====
/-
# The gather around the ring: cells, contents and the schedule

Four devices stand in a ring; `nxt c` is the device to the right of `c`, `prv c` the one to its left. Device `c`
holds 2048 rows of `x` (block `c` of 8192 rows). The upper 1024 rows of every block travel to the right, the lower
1024 to the left, three hops each, into the buffer `xg` that every device has for the whole of `x`. Between the hops
a device multiplies the rows it has by its own columns of `w`, 512 rows at a time, and writes the rectified product
to its columns of the result.

The six transfers a device makes and the six it receives are numbered `j : Fin 6`: hops 0, 1, 2 to the right are
`0, 1, 2`, hops 0, 1, 2 to the left are `3, 4, 5`. Transfer `j` of device `c` goes to `tgt c j`.

The protocol, in rounds (each cell has one round):

* a device's barrier cell is signalled by both neighbours. The right neighbour's signal hands over the right
  neighbour's three landing regions of the rightward transfers, the left neighbour's signal the left neighbour's three
  landing regions of the leftward transfers. So after its wait a device owns every region it writes to on a neighbour.
* the receive cell `j` of a device is credited by transfer `j` of the device that sends it; the credit hands over the
  landing region, holding the rows of `x` that belong there (`gath`, the same array on every device).
* the send cell `j` is credited by the device's own transfer `j` and hands back nothing: the transfers read a share of
  their source, and the device keeps the other share for its own copies.

What a device may wait for: its barrier cell is at level 1, receive cell `j` at level 2 plus its hop, all other cells
at level 0; at each wait a device owes only cells of a higher level.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the ring's rounds, and counters for the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The ring -/

set_option backward.proofsInPublic true in
/-- The device to the right; -/
def nxt (c : Dev nD) : Dev nD := ⟨(c.val + 1) % 4, Nat.mod_lt _ (by decide)⟩
set_option backward.proofsInPublic true in
/-- and to the left. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- Where transfer `j` of device `c` goes: to the right for `j < 3`, else to the left; -/
def tgt (c : Dev nD) (j : Fin 6) : Dev nD := if j.val < 3 then nxt c else prv c
/-- and where transfer `j` into device `c` comes from. -/
def org (c : Dev nD) (j : Fin 6) : Dev nD := if j.val < 3 then prv c else nxt c

theorem tgt_org (c : Dev nD) (j : Fin 6) : tgt (org c j) j = c := by revert c j; decide
theorem org_tgt (c : Dev nD) (j : Fin 6) : org (tgt c j) j = c := by revert c j; decide

/-! ## The memrefs -/

abbrev xM : Memref sig .tc .hbm S2048x8192 .f32 := Memref.whole main_arg0
abbrev wM : Memref sig .tc .vmem S8192x1024 .f32 := Memref.whole cc0_stg0_0
abbrev outM : Memref sig .tc .hbm S8192x1024 .f32 := Memref.whole main_v1_0
abbrev gM : Memref sig .tc .hbm S8192x8192 .f32 := Memref.whole main_v1_1
abbrev aM : Memref sig .tc .vmem S512x8192 .f32 := Memref.whole cc0_scratch0
abbrev oM : Memref sig .tc .vmem S512x1024 .f32 := Memref.whole cc0_scratch1

/-- 1024 rows of `xg`, and 1024 rows of `x`, from an offset. -/
abbrev gHalf (off : Fin 2 → ℕ) (inb : ∀ a, off a + S1024x8192.size a ≤ S8192x8192.size a) : Memref sig .tc .hbm S1024x8192 .f32 :=
  gM.slice (Rect.unit (s := S8192x8192) off S1024x8192.size inb) (fun _ => rfl)
abbrev xHalf (off : Fin 2 → ℕ) (inb : ∀ a, off a + S1024x8192.size a ≤ S2048x8192.size a) : Memref sig .tc .hbm S1024x8192 .f32 :=
  xM.slice (Rect.unit (s := S2048x8192) off S1024x8192.size inb) (fun _ => rfl)

/-- The first row of the region transfer `j` into device `c` lands in. -/
def landRow (c : Dev nD) (j : Fin 6) : ℕ :=
  if j.val < 3 then 2048 * ((c.val + 3 - j.val) % 4) else 2048 * ((c.val + (j.val - 3) + 1) % 4) + 1024

theorem landRow_le (c : Dev nD) (j : Fin 6) : landRow c j + 1024 ≤ 8192 := by revert c j; decide

theorem land_inb (c : Dev nD) (j : Fin 6) : ∀ a, (![landRow c j, 0] : Fin 2 → ℕ) a + S1024x8192.size a ≤ S8192x8192.size a := by
  intro a
  have := landRow_le c j
  fin_cases a
  · exact this
  · exact Nat.le_refl _

/-- The landing region of transfer `j` into device `c`. -/
abbrev landM (c : Dev nD) (j : Fin 6) : Memref sig .tc .hbm S1024x8192 .f32 := gHalf ![landRow c j, 0] (land_inb c j)

theorem gHalf_congr {off off' : Fin 2 → ℕ} (h : off = off') (inb inb') : gHalf off inb = gHalf off' inb' := by
  subst h; rfl

/-! ## The cells -/

/-- The runtime's barrier semaphore. -/
abbrev barS : Sem sig := (SemArray.scalar (sig.barrier 0 rfl) : Sems sig S_).sem
set_option backward.proofsInPublic true in
/-- The DMA semaphore transfer `j` credits on its sender; -/
def sendQ (j : Fin 6) : DmaSem sig := ⟨1 + j.val, by have := j.isLt; show 1 + j.val < 15; omega⟩
set_option backward.proofsInPublic true in
/-- and on its receiver. -/
def recvQ (j : Fin 6) : DmaSem sig := ⟨7 + j.val, by have := j.isLt; show 7 + j.val < 15; omega⟩
/-- The semaphores of the local copies in and out. -/
abbrev inQ : DmaSem sig := (cc0_scratch4 : DmaSems sig S_).sem
abbrev outQ : DmaSem sig := (cc0_scratch5 : DmaSems sig S_).sem

abbrev barCell (c : Dev nD) : GSem nD τ sig := ((c : Thread nD τ), .reg barS)
abbrev sendCell (c : Dev nD) (j : Fin 6) : GSem nD τ sig := ((c : Thread nD τ), .dma (sendQ j))
abbrev recvCell (c : Dev nD) (j : Fin 6) : GSem nD τ sig := ((c : Thread nD τ), .dma (recvQ j))

/-- The credit of one transfer of 1024 rows. -/
abbrev N : ℕ := (landM 0 0).view.dmaCredit
theorem N_pos : 0 < N := View.dmaCredit_pos _ (by decide)

/-! ## Contents -/

/-- Device `q`'s rows of `x`, as launched. -/
abbrev xC (q : Dev nD) : S2048x8192.Idx → Elt F .f32 := m ((q : Thread nD τ).loc main_arg0)

set_option backward.proofsInPublic true in
/-- All of `x`: row `r` is row `r % 2048` of device `r / 2048`'s rows. -/
def gath : S8192x8192.Idx → Elt F .f32 := fun i =>
  xC m ⟨(i 0).val / 2048, by have h : (i 0).val < 8192 := (i 0).isLt; show (i 0).val / 2048 < 4; omega⟩
    (Shape.pair ⟨(i 0).val % 2048, Nat.mod_lt _ (by decide)⟩ (i 1))

omit [FloatOps F] in
/-- Row `2048 c + r` of all of `x` is row `r` of device `c`'s rows. -/
theorem gath_at (c : Dev nD) (i : S8192x8192.Idx) (i' : S2048x8192.Idx) (h0 : (i 0).val = 2048 * c.val + (i' 0).val)
    (h1 : (i 1).val = (i' 1).val) : gath m i = xC m c i' := by
  have hlt : (i' 0).val < 2048 := (i' 0).isLt
  have hq : (⟨(i 0).val / 2048, by have h : (i 0).val < 8192 := (i 0).isLt; show (i 0).val / 2048 < 4; omega⟩ : Dev nD) = c :=
    Fin.ext (by show (i 0).val / 2048 = c.val; omega)
  unfold gath
  rw [hq]
  refine congrArg _ (funext fun b => ?_)
  match b with
  | ⟨0, _⟩ => exact Fin.ext (by show (i 0).val % 2048 = (i' 0).val; omega)
  | ⟨1, _⟩ => exact Fin.ext h1

omit [FloatOps F] in
/-- A transfer out of device `c`'s own rows reads the rows of all of `x` that belong where it lands. -/
theorem read_own (c : Dev nD) (o r : ℕ) (hr : r = 2048 * c.val + o) (inb) (inb') :
    (xHalf ![o, 0] inb).view.read (Elt F) (xC m c) = (gHalf ![r, 0] inb').view.read (Elt F) (gath m) := by
  refine funext fun y => ?_
  show xC m c _ = gath m _
  refine (gath_at m c _ _ ?_ ?_).symm
  · show r + 1 * (y 0).val = 2048 * c.val + (o + 1 * (y 0).val)
    omega
  · rfl

/-! ## The pieces held -/

/-- Device `c`'s landing region `j` at contents `f`, share `q`. -/
def landPts (c : Dev nD) (j : Fin 6) (q : PosShare TreeShare) (f : Buf (Elt F) ((c : Thread nD τ).loc main_v1_1)) : sProp 𝕄 :=
  (landM c j).view.loc (c : Thread nD τ) ↦[(landM c j).view.set]{q} f

omit [FloatOps F] in
instance landPts_storable (c : Dev nD) (j) (q) (f) : BI.Storable (upEmb : UEmb _ 𝕄) (landPts (F := F) c j q f) := by
  unfold landPts; infer_instance

/-! ## The schedule -/

/-- What the right neighbour's signal hands device `c`: the right neighbour's landing regions 0, 1, 2; -/
def barPayR (c : Dev nD) : sProp 𝕄 :=
  iprop((∃ f, landPts (nxt c) 0 fullShare f) ∗ (∃ f, landPts (nxt c) 1 fullShare f) ∗ ∃ f, landPts (nxt c) 2 fullShare f)
/-- the left neighbour's: its landing regions 3, 4, 5. -/
def barPayL (c : Dev nD) : sProp 𝕄 :=
  iprop((∃ f, landPts (prv c) 3 fullShare f) ∗ (∃ f, landPts (prv c) 4 fullShare f) ∗ ∃ f, landPts (prv c) 5 fullShare f)

/-- What the credit on a DMA semaphore of device `c` hands over: on a receive cell its landing region, holding the rows
    of `x` that belong there; on a send cell nothing. -/
def dmaPay (c : Dev nD) (q : DmaSem sig) : sProp 𝕄 :=
  if h : 7 ≤ q.val ∧ q.val < 13 then landPts c ⟨q.val - 7, by omega⟩ fullShare (gath m) else iprop(emp)

/-- The semaphores of the transfers: 1 to 12. -/
abbrev XferQ (q : DmaSem sig) : Prop := 1 ≤ q.val ∧ q.val < 13

/-- Whether a semaphore is a transfer's. -/
def isXfer : SemLoc sig → Bool
  | .reg _ => false
  | .dma q => decide (XferQ q)

/-- One round: a barrier cell has the duties `true` (paid by the right neighbour) and `false` (by the left one) of a unit
    each, a transfer's cell the duty `false` of the transfer's credit. -/
def ringRd : Rounds.Schedule (GSem nD τ sig) Bool 𝕄 where
  duties g r := if r = 0 ∧ g.1.2 = .tc ∧ g.2 = .reg barS then Finset.univ else if r = 0 ∧ g.1.2 = .tc ∧ isXfer g.2 = true then {false} else ∅
  unitless _ := False
  amount g _ _ := if g.2 = .reg barS then 1 else N
  payload g _ d := match g.2 with
    | .reg _ => if d then barPayR g.1.1 else barPayL g.1.1
    | .dma q => dmaPay m g.1.1 q
  amount_pos g _ _ _ := by
    by_cases h : g.2 = .reg barS
    · rw [if_pos h]; exact Nat.one_pos
    · rw [if_neg h]; exact N_pos

omit [FloatOps F] in
instance ringRd_payload_storable (g : GSem nD τ sig) (r : ℕ) (d : Bool) :
    BI.Storable (upEmb : UEmb _ 𝕄) ((ringRd (F := F) m).payload g r d) := by
  obtain ⟨t, sm⟩ := g
  cases sm with
  | reg s =>
    show BI.Storable upEmb (if d then barPayR t.1 else barPayL t.1)
    unfold barPayR barPayL
    split <;> infer_instance
  | dma q =>
    show BI.Storable upEmb (dmaPay m t.1 q)
    unfold dmaPay
    split <;> infer_instance

section Sched
variable (c : Dev nD) (j : Fin 6)

theorem isXfer_send : isXfer (.dma (sendQ j) : SemLoc sig) = true := by revert j; decide
theorem isXfer_recv : isXfer (.dma (recvQ j) : SemLoc sig) = true := by revert j; decide
theorem dma_ne_bar (q : DmaSem sig) : (SemLoc.dma q : SemLoc sig) ≠ .reg barS := fun h => by cases h

omit [FloatOps F] in
theorem duties_bar : (ringRd (F := F) m).duties (barCell c) 0 = Finset.univ := by dsimp only [ringRd]; exact if_pos ⟨rfl, rfl, rfl⟩
omit [FloatOps F] in
theorem duties_send : (ringRd (F := F) m).duties (sendCell c j) 0 = {false} := by
  dsimp only [ringRd]; rw [if_neg (fun h => dma_ne_bar _ h.2.2)]; exact if_pos ⟨rfl, rfl, isXfer_send j⟩
omit [FloatOps F] in
theorem duties_recv : (ringRd (F := F) m).duties (recvCell c j) 0 = {false} := by
  dsimp only [ringRd]; rw [if_neg (fun h => dma_ne_bar _ h.2.2)]; exact if_pos ⟨rfl, rfl, isXfer_recv j⟩
omit [FloatOps F] in
theorem duties_later (g : GSem nD τ sig) : ∀ r, 1 ≤ r → (ringRd (F := F) m).duties g r = ∅ :=
  fun r hr => by dsimp only [ringRd]; rw [if_neg fun h => by omega, if_neg fun h => by omega]

omit [FloatOps F] in
theorem amount_bar (d : Bool) : (ringRd (F := F) m).amount (barCell c) 0 d = 1 := by dsimp only [ringRd]; exact if_pos rfl
omit [FloatOps F] in
theorem amount_dma (q : DmaSem sig) (d : Bool) : (ringRd (F := F) m).amount ((c : Thread nD τ), .dma q) 0 d = N := by
  dsimp only [ringRd]; exact if_neg (dma_ne_bar q)

omit [FloatOps F] in
theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
theorem expect_send : (ringRd (F := F) m).expect (sendCell c j) 0 = N := by
  unfold Schedule.expect Schedule.amountOf; rw [duties_send, Finset.sum_singleton, amount_dma]
omit [FloatOps F] in
theorem expect_recv : (ringRd (F := F) m).expect (recvCell c j) 0 = N := by
  unfold Schedule.expect Schedule.amountOf; rw [duties_recv, Finset.sum_singleton, amount_dma]

omit [FloatOps F] in
theorem payload_bar (d : Bool) : (ringRd (F := F) m).payload (barCell c) 0 d = if d then barPayR c else barPayL c := rfl
omit [FloatOps F] in
theorem payload_send (d : Bool) : (ringRd (F := F) m).payload (sendCell c j) 0 d = iprop(emp) := by
  show dmaPay m c (sendQ j) = _
  unfold dmaPay sendQ
  exact dif_neg (fun h => by have h1 : 7 ≤ 1 + j.val := h.1; have := j.isLt; omega)
omit [FloatOps F] in
theorem payload_recv (d : Bool) : (ringRd (F := F) m).payload (recvCell c j) 0 d = landPts c j fullShare (gath m) := by
  show dmaPay m c (recvQ j) = _
  unfold dmaPay
  rw [dif_pos ⟨by show 7 ≤ 7 + j.val; omega, by have := j.isLt; show 7 + j.val < 13; omega⟩]
  congr 1
  exact Fin.ext (by show 7 + j.val - 7 = j.val; omega)

omit [FloatOps F] in
/-- What the barrier's wait brings: the left neighbour's and the right neighbour's landing regions. -/
theorem rest_bar : bigSep ((ringRd (F := F) m).duties (barCell c) 0 \ ∅) (fun d => (ringRd (F := F) m).payload (barCell c) 0 d) = iprop(barPayL c ∗ barPayR c) := by
  rw [Finset.sdiff_empty, duties_bar, bigSep_univ_eq_bigSepL [false, true] (by decide) (by decide), bigSepL_cons_cons, bigSepL_singleton,
    payload_bar, payload_bar]
  rfl
omit [FloatOps F] in
/-- What the wait on receive cell `j` brings: the landing region. -/
theorem rest_recv : bigSep ((ringRd (F := F) m).duties (recvCell c j) 0 \ ∅) (fun d => (ringRd (F := F) m).payload (recvCell c j) 0 d)
    = landPts c j fullShare (gath m) := by
  rw [Finset.sdiff_empty, duties_recv, bigSep_singleton, payload_recv]

end Sched

/-! ## What each device owes at launch; the levels -/

/-- The credits a device still owes on the receive cells of its transfers in a list, the first to be paid first. -/
def owedL (c : Dev nD) : List (Fin 6) → CellTallies nD τ sig Unit
  | [] => 0
  | j :: js => owedL c js + tallyAt (recvCell (tgt c j) j) () N

/-- The order a device makes its transfers in. -/
abbrev order : List (Fin 6) := [0, 3, 1, 4, 2, 5]

/-- After its first signal a device owes its right neighbour a unit and its six transfers' credits; -/
def O₁ (c : Dev nD) : CellTallies nD τ sig Unit := owedL c order + tallyAt (barCell (nxt c)) () 1
/-- before it, its left neighbour a unit too. -/
def O₀ (c : Dev nD) : CellTallies nD τ sig Unit := O₁ c + tallyAt (barCell (prv c)) () 1

def L (g : GSem nD τ sig) : Finset Unit := if g.1.2 = .tc then {()} else ∅

/-- The level of a semaphore: the barrier's is 1, receive cell `j`'s 2 plus its hop, every other 0. -/
def lvl : SemLoc sig → ℕ
  | .reg s => if s = barS then 1 else 0
  | .dma q => if 7 ≤ q.val ∧ q.val < 13 then 2 + (q.val - 7) % 3 else 0
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

theorem lvl_recv (j : Fin 6) : lvl (.dma (recvQ j)) = 2 + j.val % 3 := by revert j; decide
theorem lvl_bar : lvl (.reg barS) = 1 := by
  show (if barS = barS then 1 else 0) = 1
  exact if_pos rfl

theorem tallyAt_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem add_pos_or {A B : CellTallies nD τ sig Unit} {g : GSem nD τ sig} {u : Unit} (h : 0 < (A + B) g u) : 0 < A g u ∨ 0 < B g u := by
  rw [Pi.add_apply, Finsupp.add_apply] at h; omega

theorem owedL_pos {c : Dev nD} {js : List (Fin 6)} {g : GSem nD τ sig} {u : Unit} (h : 0 < owedL c js g u) :
    ∃ j ∈ js, g = recvCell (tgt c j) j := by
  induction js with
  | nil => exact absurd h (Nat.lt_irrefl 0)
  | cons j js ih =>
    rcases add_pos_or h with h | h
    · obtain ⟨j', hj', e⟩ := ih h
      exact ⟨j', List.mem_cons_of_mem _ hj', e⟩
    · exact ⟨j, List.mem_cons_self, tallyAt_pos h⟩

omit [FloatOps F] in
/-- A device may wait on a cell of its own below the level of every receive cell it owes. -/
theorem mayWait_owedL (c : Dev nD) (sm : SemLoc sig) (js : List (Fin 6)) (h : ∀ j ∈ js, lvl sm < 2 + j.val % 3) :
    (levAts L lv : sProp 𝕄) ⊢ MayWait (c : Thread nD τ) sm () (owedL c js) :=
  MayOwe.of_cut (L := L) (lev := lv) (lvl sm) (fun p hp => by rw [Finset.mem_singleton.mp hp, L_tc]; exact Finset.mem_singleton_self _)
    (fun g u hg => by obtain ⟨j, -, rfl⟩ := owedL_pos hg; exact Finset.mem_singleton_self _)
    (fun p hp => by rw [Finset.mem_singleton.mp hp]; exact Nat.le_refl _)
    (fun g u hg => by
      obtain ⟨j, hj, rfl⟩ := owedL_pos hg
      show lvl sm < lvl (.dma (recvQ j))
      rw [lvl_recv]; exact h j hj)

omit [FloatOps F] in
/-- At launch a device may wait on any cell of level 0. -/
theorem mayWait_launch (c : Dev nD) (sm : SemLoc sig) (h : lvl sm = 0) :
    (levAts L lv : sProp 𝕄) ⊢ MayWait (c : Thread nD τ) sm () (O₀ c) :=
  have key : ∀ (g : GSem nD τ sig) (u : Unit), 0 < O₀ c g u → u ∈ L g ∧ 0 < lvl g.2 := fun g u hg => by
    rcases add_pos_or hg with hg | hg
    · rcases add_pos_or hg with hg | hg
      · obtain ⟨j, -, rfl⟩ := owedL_pos hg
        exact ⟨Finset.mem_singleton_self _, by show 0 < lvl (.dma (recvQ j)); rw [lvl_recv]; omega⟩
      · obtain rfl := tallyAt_pos hg
        exact ⟨Finset.mem_singleton_self _, by show 0 < lvl (.reg barS); rw [lvl_bar]; omega⟩
    · obtain rfl := tallyAt_pos hg
      exact ⟨Finset.mem_singleton_self _, by show 0 < lvl (.reg barS); rw [lvl_bar]; omega⟩
  MayOwe.of_cut (L := L) (lev := lv) 0 (fun p hp => by rw [Finset.mem_singleton.mp hp, L_tc]; exact Finset.mem_singleton_self _)
    (fun g u hg => (key g u hg).1) (fun p hp => by rw [Finset.mem_singleton.mp hp]; exact Nat.le_of_eq h)
    (fun g u hg => (key g u hg).2)

end Cert.Gather

end
-- ==== Proof.Trip.lean ====
/-
# One trip of a multiplying loop

The kernel's seven loops have one body: copy 512 rows of the gathered matrix into the staging buffer, multiply them by the
device's columns of `w`, rectify, and copy the 512 rows of the product to the result. `wp_trip` runs it once for any
source of the rows, while the device owes whatever it may owe at the two waits; `wp_loop` is the loop.
-/
module

public import proofs.«01_k».proof.Proof.Common

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The values -/

/-- Device `c`'s columns of `w`, as its stage holds them. -/
abbrev wC (c : Dev nD) : S8192x1024.Idx → Elt F .f32 :=
  (win0_0.blk (0 : Fin 1)).view.read (Elt F) (m ((c : Thread nD τ).loc main_arg1))

set_option backward.proofsInPublic true in
/-- Rows `512 t` to `512 t + 511` of all of `x` (`t < 16`). -/
def rows (t : ℕ) : S512x8192.Idx → Elt F .f32 := fun y =>
  gath m (Shape.pair ⟨(512 * t + (y 0).val) % 8192, Nat.mod_lt _ (by decide)⟩ (y 1))

/-- The product's 512 rows from row `512 t`, rectified, on device `c`. -/
def tile (c : Dev nD) (t : ℕ) : S512x1024.Idx → Elt F .f32 := k0_pay1 (F := F) (rows m t) (wC m c)

set_option backward.proofsInPublic true in
/-- The result on device `c`. -/
def outT (c : Dev nD) : S8192x1024.Idx → Elt F .f32 := fun i =>
  tile m c ((i 0).val / 512) (Shape.pair ⟨(i 0).val % 512, Nat.mod_lt _ (by decide)⟩ (i 1))

omit [FloatOps F] in
/-- 512 rows of the gathered buffer read the rows of all of `x`. -/
theorem read_rows (t : ℕ) (ht : t < 16) (inb) :
    (gM.slice (Rect.unit (s := S8192x8192) ![512 * t, 0] S512x8192.size inb) (fun _ => rfl)).view.read (Elt F) (gath m) = rows m t := by
  refine funext fun y => ?_
  show gath m _ = gath m _
  refine congrArg _ (funext fun b => ?_)
  have hy : (y 0).val < 512 := (y 0).isLt
  match b with
  | ⟨0, _⟩ => exact Fin.ext (by show 512 * t + 1 * (y 0).val = (512 * t + (y 0).val) % 8192; omega)
  | ⟨1, _⟩ => exact Fin.ext (by show 0 + 1 * (y 1).val = (y 1).val; omega)

omit [FloatOps F] in
/-- 512 of the device's own rows likewise. -/
theorem read_own_rows (c : Dev nD) (o t : ℕ) (ht : 512 * t = 2048 * c.val + o) (inb) :
    (xM.slice (Rect.unit (s := S2048x8192) ![o, 0] S512x8192.size inb) (fun _ => rfl)).view.read (Elt F) (xC m c) = rows m t := by
  refine funext fun y => ?_
  show xC m c _ = gath m _
  have hy : (y 0).val < 512 := (y 0).isLt
  have ho : o + 512 ≤ 2048 := inb 0
  have hc : c.val < 4 := c.isLt
  refine (gath_at m c _ _ ?_ ?_).symm
  · show (512 * t + (y 0).val) % 8192 = 2048 * c.val + (o + 1 * (y 0).val)
    omega
  · show (y 1).val = 0 + 1 * (y 1).val
    omega

/-! ## What a trip holds -/

def wPts (c : Dev nD) : sProp 𝕄 := wM.view.loc (c : Thread nD τ) ↦[Finset.univ]{fullShare} wC m c
def aPts (c : Dev nD) : sProp 𝕄 := iprop(∃ f, aM.view.loc (c : Thread nD τ) ↦[Finset.univ]{fullShare} f)
def oPts (c : Dev nD) : sProp 𝕄 := iprop(∃ f, oM.view.loc (c : Thread nD τ) ↦[Finset.univ]{fullShare} f)

/-- The result's buffer, holding the result on the tiles in `D`. -/
def outHeld (c : Dev nD) (D : Finset ℕ) : sProp 𝕄 :=
  iprop(∃ g : S8192x1024.Idx → Elt F .f32, ⌜∀ i, (i 0).val / 512 ∈ D → g i = outT m c i⌝
    ∗ outM.view.loc (c : Thread nD τ) ↦[Finset.univ]{fullShare} g)

/-- What every trip holds besides the rows it reads and what the device owes: the stages, the result with the tiles `D` done,
    the copies' semaphores at zero. -/
def kit (c : Dev nD) (D : Finset ℕ) : sProp 𝕄 :=
  iprop(wPts m c ∗ aPts c ∗ oPts c ∗ outHeld m c D ∗ semVal ((c : Thread nD τ), .dma inQ) 0 ∗ semVal ((c : Thread nD τ), .dma outQ) 0)

/-- What the device owes, whatever it has waited for. -/
def ow (c : Dev nD) (O : CellTallies nD τ sig Unit) : sProp 𝕄 := iprop(∃ W, owes (c : Thread nD τ) O W)

def work (c : Dev nD) (D : Finset ℕ) (O : CellTallies nD τ sig Unit) : sProp 𝕄 := iprop(kit m c D ∗ ow c O)

/-! ## The trip -/

/-- The body of the loops, over the rows it reads and the rows it writes. -/
def tripProg (src : Memref sig .tc .hbm S512x8192 .f32) (dst : Memref sig .tc .hbm S512x1024 .f32)
    (hsrc : src.view.WordExact) (hdst : dst.view.WordExact) : Prog (TpuEff nD τ sig (Elt F) Λ₀ .tc) Unit := do
  Prog.lift (.enqueueDma src (.here aM) (.dma inQ) hsrc (Memref.isWhole_whole _).wordExact ⟨Or.inl rfl, trivial⟩)
  Prog.lift (.waitDma2 inQ src aM hsrc (Memref.isWhole_whole _).wordExact)
  let a : Vec F S512x8192 .f32 ← Prog.lift (.load aM (Rect.unit (s := S512x8192) ![0, 0] S512x8192.size inb_S512x8192_S512x8192_0_0).toLoadRect (View.loadsAt_vmem h_S512x8192))
  let b : Vec F S8192x1024 .f32 ← Prog.lift (.load wM (Rect.unit (s := S8192x1024) ![0, 0] S8192x1024.size inb_S8192x1024_S8192x1024_0_0).toLoadRect (View.loadsAt_vmem h_S8192x1024))
  let _o : Vec F S512x1024 .f32 ← Prog.lift (.load oM (Rect.unit (s := S512x1024) ![0, 0] S512x1024.size inb_S512x1024_S512x1024_0_0).toLoadRect (View.loadsAt_vmem h_S512x1024))
  Prog.lift (.store oM (Rect.unit (s := S512x1024) ![0, 0] S512x1024.size inb_S512x1024_S512x1024_0_0) (k0_pay1 (F := F) a b) Finset.univ (View.stores_vmem_bits_univ h_S512x1024 rfl) (.inl rfl))
  Prog.lift (.enqueueDma oM (.here dst) (.dma outQ) (Memref.isWhole_whole _).wordExact hdst ⟨Or.inl rfl, trivial⟩)
  Prog.lift (.waitDma2 outQ oM dst (Memref.isWhole_whole _).wordExact hdst)
  pure ⟨⟩

theorem hz : (![0, 0] : Fin 2 → ℕ) = fun _ => 0 := funext fun a => by fin_cases a <;> rfl

/-- 512 rows of the result's buffer from an offset. -/
abbrev outRows (off : Fin 2 → ℕ) (inb : ∀ a, off a + S512x1024.size a ≤ S8192x1024.size a) : Memref sig .tc .hbm S512x1024 .f32 :=
  outM.slice (Rect.unit (s := S8192x1024) off S512x1024.size inb) (fun _ => rfl)

/-- The result's buffer at `g` with 512 rows overwritten by `w`. -/
def put (off : Fin 2 → ℕ) (inb : ∀ a, off a + S512x1024.size a ≤ S8192x1024.size a) (g : S8192x1024.Idx → Elt F .f32)
    (w : S512x1024.Idx → Elt F .f32) : S8192x1024.Idx → Elt F .f32 :=
  View.write (Elt F) (outRows off inb).view g w Finset.univ

/-- Writing tile `t` of the result extends the tiles done. -/
theorem out_step (c : Dev nD) (D : Finset ℕ) (t : ℕ) (ht : t < 16) (inb) (g : S8192x1024.Idx → Elt F .f32)
    (hg : ∀ i : S8192x1024.Idx, (i 0).val / 512 ∈ D → g i = outT m c i) (i : S8192x1024.Idx) (hi : (i 0).val / 512 ∈ insert t D) :
    put ![512 * t, 0] inb g (tile m c t) i = outT m c i := by
  by_cases hit : (i 0).val / 512 = t
  · have hlt : (i 0).val < 8192 := (i 0).isLt
    have hm : (i 0).val % 512 < 512 := Nat.mod_lt _ (by omega)
    let y : S512x1024.Idx := Shape.pair ⟨(i 0).val % 512, hm⟩ (i 1)
    have hi' : i = (outRows ![512 * t, 0] inb).view.emb y := by
      refine funext fun b => ?_
      match b with
      | ⟨0, _⟩ => exact Fin.ext (by show (i 0).val = 512 * t + 1 * ((i 0).val % 512); omega)
      | ⟨1, _⟩ => exact Fin.ext (by show (i 1).val = 0 + 1 * (i 1).val; omega)
    have hw := View.write_emb_of_mem (Val := Elt F) (v := (outRows ![512 * t, 0] inb).view) g (tile m c t) (M := Finset.univ) (Finset.mem_univ y)
    refine (congrArg _ hi').trans (hw.trans ?_)
    show tile m c t y = tile m c ((i 0).val / 512) y
    rw [hit]
  · have hni : i ∉ (outRows ![512 * t, 0] inb).view.setOn Finset.univ := by
      intro hmem
      obtain ⟨x, -, rfl⟩ := Finset.mem_map.mp hmem
      apply hit
      have hx : (x 0).val < 512 := (x 0).isLt
      show (512 * t + 1 * (x 0).val) / 512 = t
      omega
    refine (View.write_of_not_mem (v := (outRows ![512 * t, 0] inb).view) g (tile m c t) Finset.univ hni).trans (hg i ?_)
    rcases Finset.mem_insert.mp hi with h | h
    · exact absurd h hit
    · exact h

/-- A trip: holding the rows to read at any share, inside any elements of their buffer, it adds tile `t`. -/
theorem wp_trip (c : Dev nD) (t : ℕ) (ht : t < 16) {bM : Memref sig .tc .hbm S512x8192 .f32} {hsrc : bM.view.WordExact}
    (off : Fin 2 → ℕ) (inb : ∀ a, off a + S512x1024.size a ≤ S8192x1024.size a) (hoff : off = ![512 * t, 0]) {hdst}
    (S : Finset (Idx (bM.view.loc (c : Thread nD τ)))) (q : PosShare TreeShare) (fs : Buf (Elt F) (bM.view.loc (c : Thread nD τ)))
    (hS : bM.view.set ⊆ S) (hread : bM.view.read (Elt F) fs = rows m t)
    (O : CellTallies nD τ sig Unit)
    (hin : (levAts L lv : sProp 𝕄) ⊢ MayWait (c : Thread nD τ) (.dma inQ) () O)
    (hout : (levAts L lv : sProp 𝕄) ⊢ MayWait (c : Thread nD τ) (.dma outQ) () O) (D : Finset ℕ) :
    iprop(levAts L lv ∗ (bM.view.loc (c : Thread nD τ) ↦[S]{q} fs) ∗ work m c D O)
      ⊢ wp frame (wpE (defs₀ (F := F)) 𝒱₀ (c : Thread nD τ) none) Set.univ
          (tripProg bM (outRows off inb) hsrc hdst)
          (fun _ => iprop((bM.view.loc (c : Thread nD τ) ↦[S]{q} fs) ∗ work m c (insert t D) O)) := by
  subst hoff
  unfold tripProg work kit ow aPts oPts outHeld wPts
  simp only [Prog.lift, Prog.bind_op, Prog.bind_ret, Prog.pure_eq_ret, Prog.bind_assoc]
  iintro ⟨#HL, Hs, ⟨Hw, ⟨%fa, Ha⟩, ⟨%fo, Ho⟩, ⟨%g, %hg, Hout⟩, Hin, Hou⟩, ⟨%W, HO⟩⟩
  ihave Hsp := (pointsTo_split_subset (ℓ := bM.view.loc (c : Thread nD τ)) (I := bM.view.set) (q := q) (f := fs) hS).1 $$ Hs
  icases Hsp with ⟨Hs, Hsr⟩
  -- the rows in
  iapply (Transfers.wp_dmaLocal EC 𝒱₀ (c : Thread nD τ) none () aM.view.dmaCredit rfl (View.dmaCredit_pos _ (by decide)) (Finset.subset_univ _)) $$ [Hs Ha Hin]
  · isplitl [Hs]; · iexact Hs
    isplitl [Ha] <;> iassumption
  iintro Hf
  iapply (Transfers.wp_waitLocalO EC 𝒱₀ (c : Thread nD τ) none () rfl) $$ [Hf HO]
  · isplitl [Hf]; · iexact Hf
    isplitl [HO]; · iexact HO
    iapply hin $$ HL
  iintro ⟨⟨Ha, Hs⟩, Hin, HO⟩
  ihave Hs := (pointsTo_split_subset (ℓ := bM.view.loc (c : Thread nD τ)) (I := bM.view.set) (q := q) (f := fs) hS).2 $$ [Hs Hsr]
  · isplitl [Hs] <;> iassumption
  -- the loads
  iapply (wp_load 𝒱₀ (c : Thread nD τ) none Set.univ (m := aM) (Finset.subset_univ _)) $$ Ha
  iintro Ha
  iapply (wp_load 𝒱₀ (c : Thread nD τ) none Set.univ (m := wM) (Finset.subset_univ _)) $$ Hw
  iintro Hw
  iapply (wp_load 𝒱₀ (c : Thread nD τ) none Set.univ (m := oM) (Finset.subset_univ _)) $$ Ho
  iintro Ho
  -- the product
  iapply (wp_store 𝒱₀ (c : Thread nD τ) none Set.univ (m := oM)
    (r := Rect.unit (s := S512x1024) ![0, 0] S512x1024.size inb_S512x1024_S512x1024_0_0) (Mk := Finset.univ) (Finset.subset_univ _)) $$ Ho
  iintro Ho
  -- the rows out
  iapply (Transfers.wp_dmaLocal EC 𝒱₀ (c : Thread nD τ) none () _ rfl (View.dmaCredit_pos _ (by decide)) (Finset.subset_univ _)) $$ [Ho Hout Hou]
  · isplitl [Ho]
    · rw [View.set_whole]; iexact Ho
    isplitl [Hout] <;> iassumption
  iintro Hf
  iapply (Transfers.wp_waitLocalO EC 𝒱₀ (c : Thread nD τ) none () rfl) $$ [Hf HO]
  · isplitl [Hf]; · iexact Hf
    isplitl [HO]; · iexact HO
    iapply hout $$ HL
  iintro ⟨⟨Hout, Ho⟩, Hou, HO⟩
  rw [wp_ret]
  imodintro
  isplitl [Hs]; · iexact Hs
  isplitr [HO]
  rotate_left
  · iexists _; iexact HO
  isplitl [Hw]; · iexact Hw
  isplitl [Ha]; · iexists _; iexact Ha
  isplitl [Ho]
  · iexists _; rw [View.set_whole]; iexact Ho
  isplitl [Hout]
  · iexists _
    isplitr
    swap
    · iexact Hout
    ipureintro
    intro i hi
    refine Eq.trans ?_ (out_step m c D t ht inb g hg i hi)
    refine congrFun (congrArg (put ![512 * t, 0] inb g) ?_) i
    have ha := (Memref.readAt_unit_zero (Elt F) cc0_scratch0 hz inb_S512x8192_S512x8192_0_0
      (aM.view.write (Elt F) fa (bM.view.read (Elt F) fs) Finset.univ)).trans ((View.write_whole_univ cc0_scratch0 fa _).trans hread)
    have hw := Memref.readAt_unit_zero (Elt F) cc0_stg0_0 hz inb_S8192x1024_S8192x1024_0_0 (wC m c)
    exact ((Memref.write_access_unit_zero_univ (Elt F) cc0_scratch1 hz inb_S512x1024_S512x1024_0_0 fo _).trans
      (congrArg₂ (k0_pay1 (F := F)) ha hw))
  isplitl [Hin] <;> iassumption

theorem insert_Ico (D : Finset ℕ) (t₀ k : ℕ) : insert (t₀ + k) (D ∪ Finset.Ico t₀ (t₀ + k)) = D ∪ Finset.Ico t₀ (t₀ + (k + 1)) := by
  ext x
  simp only [Finset.mem_insert, Finset.mem_union, Finset.mem_Ico]
  constructor
  · rintro (h | h | h)
    · exact Or.inr (by omega)
    · exact Or.inl h
    · exact Or.inr (by omega)
  · rintro (h | h)
    · exact Or.inr (Or.inl h)
    · by_cases hx : x = t₀ + k
      · exact Or.inl hx
      · exact Or.inr (Or.inr (by omega))

/-- A counted loop whose trip `k` adds tile `t₀ + k` and keeps `P`. -/
theorem wp_loop (c : Dev nD) (l : Scf.Loop 32) (hok : l.OK) (t₀ : ℕ) (P : sProp 𝕄) (O : CellTallies nD τ sig Unit)
    (body : Fin l.trips → Unit → Prog (TpuEff nD τ sig (Elt F) Λ₀ .tc) Unit)
    (htrip : ∀ (k : Fin l.trips) (D : Finset ℕ), iprop(levAts L lv ∗ P ∗ work m c D O)
      ⊢ wp frame (wpE (defs₀ (F := F)) 𝒱₀ (c : Thread nD τ) none) Set.univ (body k ⟨⟩) (fun _ => iprop(P ∗ work m c (insert (t₀ + k.val) D) O)))
    {kk : Unit → Prog (TpuEff nD τ sig (Elt F) Λ₀ .tc) PUnit} {Q : PUnit → sProp 𝕄} (D : Finset ℕ) :
    iprop(levAts L lv ∗ P ∗ work m c D O)
      ⊢ iprop((iprop(P ∗ work m c (D ∪ Finset.Ico t₀ (t₀ + l.trips)) O) -∗ wp frame (wpE (defs₀ (F := F)) 𝒱₀ (c : Thread nD τ) none) Set.univ (kk ⟨⟩) Q)
        -∗ wp frame (wpE (defs₀ (F := F)) 𝒱₀ (c : Thread nD τ) none) Set.univ (Scf.Loop.for l hok ⟨⟩ body >>= kk) Q) := by
  iintro ⟨#HL, HP, Hwork⟩ HK
  iapply (Scf.wp_for_bind frame (wpE (defs₀ (F := F)) 𝒱₀ (c : Thread nD τ) none) Set.univ l.lb l.ub l.st hok ⟨⟩ body
    (fun k _ => iprop(levAts L lv ∗ P ∗ work m c (D ∪ Finset.Ico t₀ (t₀ + k)) O)) (fun k acc => by
      iintro ⟨#HL, HP, Hwork⟩
      iapply (wp_wand frame (wpE (defs₀ (F := F)) 𝒱₀ (c : Thread nD τ) none) Set.univ) $$ [HP Hwork]
      · iapply (htrip k (D ∪ Finset.Ico t₀ (t₀ + k.val)))
        isplitr; · iexact HL
        isplitl [HP] <;> iassumption
      iintro %a ⟨HP, Hwork⟩
      isplitr; · iexact HL
      isplitl [HP]; · iexact HP
      rw [← insert_Ico D t₀ k.val]
      iexact Hwork)) $$ [HP Hwork]
  · isplitr; · iexact HL
    isplitl [HP]; · iexact HP
    rw [Nat.add_zero, Finset.Ico_self, Finset.union_empty]
    iexact Hwork
  iintro %acc ⟨-, HP, Hwork⟩
  iapply HK
  isplitl [HP] <;> iassumption

/-- 512 rows of the gathered buffer, and 512 of the device's own rows, from an offset. -/
abbrev gRows (off : Fin 2 → ℕ) (inb : ∀ a, off a + S512x8192.size a ≤ S8192x8192.size a) : Memref sig .tc .hbm S512x8192 .f32 :=
  gM.slice (Rect.unit (s := S8192x8192) off S512x8192.size inb) (fun _ => rfl)
abbrev xRows (off : Fin 2 → ℕ) (inb : ∀ a, off a + S512x8192.size a ≤ S2048x8192.size a) : Memref sig .tc .hbm S512x8192 .f32 :=
  xM.slice (Rect.unit (s := S2048x8192) off S512x8192.size inb) (fun _ => rfl)

theorem landRow_tile (c : Dev nD) (j : Fin 6) : landRow c j = 512 * (landRow c j / 512) := by revert c j; decide

/-- A loop over a landing region that holds its rows of all of `x`: from its first row on, `l.trips` tiles. -/
theorem wp_loop_g (c : Dev nD) (j : Fin 6) (q : PosShare TreeShare) (l : Scf.Loop 32) (hok : l.OK) (htr : l.trips = 2)
    (offS offD : Fin l.trips → Fin 2 → ℕ)
    (inbS : ∀ k a, offS k a + S512x8192.size a ≤ S8192x8192.size a) (inbD : ∀ k a, offD k a + S512x1024.size a ≤ S8192x1024.size a)
    (hS : ∀ k, offS k = ![landRow c j + 512 * k.val, 0]) (hD : ∀ k, offD k = ![landRow c j + 512 * k.val, 0])
    (hsrc : ∀ k, (gRows (offS k) (inbS k)).view.WordExact) (hdst : ∀ k, (outRows (offD k) (inbD k)).view.WordExact)
    (O : CellTallies nD τ sig Unit)
    (hin : (levAts L lv : sProp 𝕄) ⊢ MayWait (c : Thread nD τ) (.dma inQ) () O)
    (hout : (levAts L lv : sProp 𝕄) ⊢ MayWait (c : Thread nD τ) (.dma outQ) () O)
    (body : Fin l.trips → Unit → Prog (TpuEff nD τ sig (Elt F) Λ₀ .tc) Unit)
    (hbody : ∀ k, body k ⟨⟩ = tripProg (gRows (offS k) (inbS k)) (outRows (offD k) (inbD k)) (hsrc k) (hdst k))
    {kk : Unit → Prog (TpuEff nD τ sig (Elt F) Λ₀ .tc) PUnit} {Q : PUnit → sProp 𝕄} (D : Finset ℕ) :
    iprop(levAts L lv ∗ landPts c j q (gath m) ∗ work m c D O)
      ⊢ iprop((iprop(landPts c j q (gath m) ∗ work m c (D ∪ Finset.Ico (landRow c j / 512) (landRow c j / 512 + 2)) O)
          -∗ wp frame (wpE (defs₀ (F := F)) 𝒱₀ (c : Thread nD τ) none) Set.univ (kk ⟨⟩) Q)
        -∗ wp frame (wpE (defs₀ (F := F)) 𝒱₀ (c : Thread nD τ) none) Set.univ (Scf.Loop.for l hok ⟨⟩ body >>= kk) Q) := by
  have hdiv := landRow_tile c j
  have hle := landRow_le c j
  conv => rhs; rw [← htr]
  refine wp_loop m c l hok (landRow c j / 512) (landPts c j q (gath m)) O body (fun k D => ?_) D
  have hk : k.val < 2 := htr ▸ k.isLt
  have hrow : landRow c j + 512 * k.val = 512 * (landRow c j / 512 + k.val) := by omega
  rw [hbody k]
  unfold landPts
  refine wp_trip m c (landRow c j / 512 + k.val) (by omega) (bM := gRows (offS k) (inbS k)) (offD k) (inbD k) ((hD k).trans (by rw [hrow]))
    (landM c j).view.set q (gath m) ?_ ?_ O hin hout D
  · intro i hi
    obtain ⟨x, -, rfl⟩ := Finset.mem_map.mp hi
    have hx0 : (x 0).val < 512 := (x 0).isLt
    have hx1 : (x 1).val < 8192 := (x 1).isLt
    have h0 : offS k 0 = landRow c j + 512 * k.val := congrFun (hS k) 0
    have h1 : offS k 1 = 0 := congrFun (hS k) 1
    rw [View.set_slice_whole]
    refine Rect.mem_set_unit.mpr fun a => ?_
    match a with
    | ⟨0, _⟩ =>
      show landRow c j ≤ offS k 0 + 1 * (x 0).val ∧ offS k 0 + 1 * (x 0).val < landRow c j + 1024
      omega
    | ⟨1, _⟩ =>
      show 0 ≤ offS k 1 + 1 * (x 1).val ∧ offS k 1 + 1 * (x 1).val < 0 + 8192
      omega
  · have hgen : ∀ (o : Fin 2 → ℕ) (inb), o = ![512 * (landRow c j / 512 + k.val), 0] →
        (gRows o inb).view.read (Elt F) (gath m) = rows m (landRow c j / 512 + k.val) := by
      intro o inb ho
      subst ho
      exact read_rows m _ (by omega) inb
    exact hgen _ _ ((hS k).trans (by rw [hrow]))

/-- The loop over the device's own rows: four tiles. -/
theorem wp_loop_x (c : Dev nD) (q : PosShare TreeShare) (l : Scf.Loop 32) (hok : l.OK) (htr : l.trips = 4)
    (offS offD : Fin l.trips → Fin 2 → ℕ)
    (inbS : ∀ k a, offS k a + S512x8192.size a ≤ S2048x8192.size a) (inbD : ∀ k a, offD k a + S512x1024.size a ≤ S8192x1024.size a)
    (hS : ∀ k, offS k = ![512 * k.val, 0]) (hD : ∀ k, offD k = ![2048 * c.val + 512 * k.val, 0])
    (hsrc : ∀ k, (xRows (offS k) (inbS k)).view.WordExact) (hdst : ∀ k, (outRows (offD k) (inbD k)).view.WordExact)
    (O : CellTallies nD τ sig Unit)
    (hin : (levAts L lv : sProp 𝕄) ⊢ MayWait (c : Thread nD τ) (.dma inQ) () O)
    (hout : (levAts L lv : sProp 𝕄) ⊢ MayWait (c : Thread nD τ) (.dma outQ) () O)
    (body : Fin l.trips → Unit → Prog (TpuEff nD τ sig (Elt F) Λ₀ .tc) Unit)
    (hbody : ∀ k, body k ⟨⟩ = tripProg (xRows (offS k) (inbS k)) (outRows (offD k) (inbD k)) (hsrc k) (hdst k))
    {kk : Unit → Prog (TpuEff nD τ sig (Elt F) Λ₀ .tc) PUnit} {Q : PUnit → sProp 𝕄} (D : Finset ℕ) :
    iprop(levAts L lv ∗ (xM.view.loc (c : Thread nD τ) ↦[Finset.univ]{q} xC m c) ∗ work m c D O)
      ⊢ iprop((iprop((xM.view.loc (c : Thread nD τ) ↦[Finset.univ]{q} xC m c) ∗ work m c (D ∪ Finset.Ico (4 * c.val) (4 * c.val + 4)) O)
          -∗ wp frame (wpE (defs₀ (F := F)) 𝒱₀ (c : Thread nD τ) none) Set.univ (kk ⟨⟩) Q)
        -∗ wp frame (wpE (defs₀ (F := F)) 𝒱₀ (c : Thread nD τ) none) Set.univ (Scf.Loop.for l hok ⟨⟩ body >>= kk) Q) := by
  have hc : c.val < 4 := c.isLt
  conv => rhs; rw [show 4 * c.val + 4 = 4 * c.val + l.trips by rw [htr]]
  refine wp_loop m c l hok (4 * c.val) _ O body (fun k D => ?_) D
  have hk : k.val < 4 := htr ▸ k.isLt
  have hrow : 2048 * c.val + 512 * k.val = 512 * (4 * c.val + k.val) := by omega
  rw [hbody k]
  refine wp_trip m c (4 * c.val + k.val) (by omega) (bM := xRows (offS k) (inbS k)) (offD k) (inbD k) ((hD k).trans (by rw [hrow]))
    Finset.univ q (xC m c) (Finset.subset_univ _) ?_ O hin hout D
  have hgen : ∀ (o : Fin 2 → ℕ) (inb), o = ![512 * k.val, 0] →
      (xRows o inb).view.read (Elt F) (xC m c) = rows m (4 * c.val + k.val) := by
    intro o inb ho
    subst ho
    exact read_own_rows m c _ _ (by omega) inb
  exact hgen _ _ (hS k)

end Cert.Gather

end
-- ==== Proof.Steps.lean ====
/-
# The steps between the devices

One theorem per kind of step, at any device and any transfer: the two signals of the barrier, the wait for it, the start of a
transfer, the wait for a transfer that arrives, and the wait for one that has left. A wait closes its cell, so that its
counter is the device's again, at zero.
-/
module

public import proofs.«01_k».proof.Proof.Trip

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The records every device shares -/

/-- The cells: index 0 the barrier's, 1 to 6 the send cells', 7 to 12 the receive cells'. -/
def csem (k : Fin 13) : SemLoc sig := if k = 0 then .reg barS else .dma ⟨k.val, by have := k.isLt; show k.val < 15; omega⟩
abbrev kcell (ck : Dev nD × Fin 13) : GSem nD τ sig := ((ck.1 : Thread nD τ), csem ck.2)

theorem kcell_bar (c : Dev nD) : kcell (c, 0) = barCell c := rfl
theorem kcell_send (c : Dev nD) (j : Fin 6) : kcell (c, ⟨1 + j.val, by omega⟩) = sendCell c j := by
  refine Prod.ext rfl ?_
  show csem _ = _
  unfold csem
  exact if_neg (fun h => by have := congrArg Fin.val h; have h' : 1 + j.val = 0 := this; omega)
theorem kcell_recv (c : Dev nD) (j : Fin 6) : kcell (c, ⟨7 + j.val, by omega⟩) = recvCell c j := by
  refine Prod.ext rfl ?_
  show csem _ = _
  unfold csem
  exact if_neg (fun h => by have := congrArg Fin.val h; have h' : 7 + j.val = 0 := this; omega)

/-- A cell's invariant stands, and its round is reached. -/
def recOf (g : GSem nD τ sig) : sProp 𝕄 := iprop((∃ κ : ℕ, cellInv ER (ringRd m) κ g) ∗ reached ER g 0)

instance recOf_persistent (g : GSem nD τ sig) : BI.Persistent (recOf (F := F) m g) := by unfold recOf; infer_instance

/-- Of every cell of every device. -/
def records : sProp 𝕄 := bigSep Finset.univ fun ck : Dev nD × Fin 13 => recOf m (kcell ck)

instance records_persistent : BI.Persistent (records (F := F) m) := by unfold records; infer_instance

theorem rec_at (ck : Dev nD × Fin 13) : records (F := F) m ⊢ recOf m (kcell ck) := bigSep_elim (Finset.mem_univ ck)
theorem rec_bar (c : Dev nD) : records (F := F) m ⊢ recOf m (barCell c) := rec_at m (c, 0)
theorem rec_send (c : Dev nD) (j : Fin 6) : records (F := F) m ⊢ recOf m (sendCell c j) := kcell_send c j ▸ rec_at m (c, ⟨1 + j.val, by omega⟩)
theorem rec_recv (c : Dev nD) (j : Fin 6) : records (F := F) m ⊢ recOf m (recvCell c j) := kcell_recv c j ▸ rec_at m (c, ⟨7 + j.val, by omega⟩)

/-! ## The barrier -/

/-- The signal to the left neighbour hands it the landing regions of the rightward transfers. -/
theorem wp_signal_prv {α : Type} {Q : α → sProp 𝕄} {k : PUnit → Prog (TpuEff nD τ sig (Elt F) Λ₀ .tc) α}
    (c n : Dev nD) (hn : n = prv c) (u : ℕ) (hu : 1 = u) :
    iprop(records m ∗ ow c (O₀ c) ∗ dutyTok ER (barCell (prv c)) 0 true
        ∗ (∃ f, landPts c 0 fullShare f) ∗ (∃ f, landPts c 1 fullShare f) ∗ (∃ f, landPts c 2 fullShare f))
      ⊢ iprop((ow c (O₁ c) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS u) k) Q) := by
  subst hn; subst hu
  unfold ow
  iintro ⟨#HR, ⟨%W, HO⟩, Ht, H0, H1, H2⟩ Hk
  ihave #Hr := (rec_bar m (prv c)) $$ HR
  unfold recOf
  icases Hr with ⟨⟨%κ, #HI⟩, #Hre⟩
  iapply (Rounds.wp_signal 𝒱₀ ER (ringRd m) (c : Thread nD τ) none (dst := (prv c : Thread nD τ)) (κ := κ)
      (d := true) (by rw [duties_bar]; exact Finset.mem_univ _) (amount_bar m (prv c) true) () (O₁ c) rfl) $$ [HO Ht H0 H1 H2]
  · isplitr; · iexact HI
    isplitl [HO]; · iexact HO
    isplitl [Ht]; · iexact Ht
    isplitl [H0 H1 H2]
    · rw [payload_bar, if_pos rfl]
      unfold barPayR
      rw [nxt_prv]
      isplitl [H0]; · iexact H0
      isplitl [H1] <;> iassumption
    iexact Hre
  iintro HO
  iapply Hk
  iexists _; iexact HO

/-- The signal to the right neighbour, those of the leftward ones. -/
theorem wp_signal_nxt {α : Type} {Q : α → sProp 𝕄} {k : PUnit → Prog (TpuEff nD τ sig (Elt F) Λ₀ .tc) α}
    (c n : Dev nD) (hn : n = nxt c) (u : ℕ) (hu : 1 = u) :
    iprop(records m ∗ ow c (O₁ c) ∗ dutyTok ER (barCell (nxt c)) 0 false
        ∗ (∃ f, landPts c 3 fullShare f) ∗ (∃ f, landPts c 4 fullShare f) ∗ (∃ f, landPts c 5 fullShare f))
      ⊢ iprop((ow c (owedL c order) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS u) k) Q) := by
  subst hn; subst hu
  unfold ow
  iintro ⟨#HR, ⟨%W, HO⟩, Ht, H0, H1, H2⟩ Hk
  ihave #Hr := (rec_bar m (nxt c)) $$ HR
  unfold recOf
  icases Hr with ⟨⟨%κ, #HI⟩, #Hre⟩
  iapply (Rounds.wp_signal 𝒱₀ ER (ringRd m) (c : Thread nD τ) none (dst := (nxt c : Thread nD τ)) (κ := κ)
      (d := false) (by rw [duties_bar]; exact Finset.mem_univ _) (amount_bar m (nxt c) false) () (owedL c order) rfl) $$ [HO Ht H0 H1 H2]
  · isplitr; · iexact HI
    isplitl [HO]; · iexact HO
    isplitl [Ht]; · iexact Ht
    isplitl [H0 H1 H2]
    · rw [payload_bar, if_neg Bool.false_ne_true]
      unfold barPayL
      rw [prv_nxt]
      isplitl [H0]; · iexact H0
      isplitl [H1] <;> iassumption
    iexact Hre
  iintro HO
  iapply Hk
  iexists _; iexact HO

/-- The wait for both neighbours: it brings every landing region the device will write to. -/
theorem wp_wait_bar {α : Type} {Q : α → sProp 𝕄} {k : PUnit → Prog (TpuEff nD τ sig (Elt F) Λ₀ .tc) α}
    (c : Dev nD) (u : ℕ) (hu : 2 = u) :
    iprop(records m ∗ levAts L lv ∗ cred (tallyAt (barCell c) () 2) ∗ ow c (owedL c order) ∗ atPos ER (barCell c) 0 ∅ 0)
      ⊢ iprop((iprop(ow c (owedL c order) ∗ semVal (barCell c) 0 ∗ barPayL (F := F) c ∗ barPayR (F := F) c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS u) k) Q) := by
  subst hu
  unfold ow
  iintro ⟨#HR, #HL, Hc, ⟨%W, HO⟩, Hat⟩ Hk
  ihave #Hr := (rec_bar m c) $$ HR
  unfold recOf
  icases Hr with ⟨⟨%κ, #HI⟩, -⟩
  iapply (Rounds.wp_wait_rest_token 𝒱₀ ER (ringRd m) (c : Thread nD τ) none (κ := κ)
      (wpE_semWait_eq 𝒱₀ (c : Thread nD τ) none Set.univ) (Set.mem_univ _) () (O := owedL c order) (W := W) (R := 0) (m := 0) (T := ∅)
      (by rw [expect_bar])) $$ [Hc HO Hat]
  · isplitr; · iexact HI
    isplitl [Hc]; · iexact Hc
    isplitl [HO]; · iexact HO
    isplitr
    · iapply (mayWait_owedL c (.reg barS) order (by rw [lvl_bar]; decide)) $$ HL
    iexact Hat
  iintro ⟨HO, Hat, -, Hpay⟩
  ihave Hp := (Entails.of_eq (rest_bar m c)) $$ Hpay
  icases Hp with ⟨HpL, HpR⟩
  imod (Rounds.cell_close ER (ringRd m) (Set.mem_univ κ) (fun h => h) (R := 0 + 1) (duties_later m (barCell c))) $$ [Hat] with Hz
  · isplitr; · iexact HI
    iexact Hat
  iapply Hk
  isplitl [HO]; · iexists _; iexact HO
  isplitl [Hz]; · iexact Hz
  isplitl [HpL] <;> iassumption

/-! ## The transfers -/

/-- The wait for the transfer that lands in region `j`: the region holds its rows of all of `x`. -/
theorem wp_wait_recv {α : Type} {Q : α → sProp 𝕄} {k : PUnit → Prog (TpuEff nD τ sig (Elt F) Λ₀ .tc) α}
    (c : Dev nD) (j : Fin 6) (js : List (Fin 6)) (hjs : ∀ j' ∈ js, j.val % 3 < j'.val % 3)
    {s' : Shape} {e' : EltTy} {sp' sp : Space} {s : Shape} {e : EltTy} {κ' : Kind}
    (q : DmaSem sig) (hq : q = recvQ j)
    {srcw : Memref sig .tc sp' s' e'} {dstw : Memref sig κ' sp s e} {hsrc : srcw.view.WordExact} {hdst : dstw.view.WordExact}
    (hN : dstw.view.dmaCredit = N) :
    iprop(records m ∗ levAts L lv ∗ cred (tallyAt (recvCell c j) () N) ∗ ow c (owedL c js) ∗ atPos ER (recvCell c j) 0 ∅ 0)
      ⊢ iprop((iprop(ow c (owedL c js) ∗ semVal (recvCell c j) 0 ∗ landPts c j fullShare (gath m))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  subst hq
  unfold ow
  iintro ⟨#HR, #HL, Hc, ⟨%W, HO⟩, Hat⟩ Hk
  ihave #Hr := (rec_recv m c j) $$ HR
  unfold recOf
  icases Hr with ⟨⟨%κ, #HI⟩, -⟩
  iapply (Rounds.wp_wait_rest_token 𝒱₀ ER (ringRd m) (c : Thread nD τ) none (κ := κ)
      (wpE_waitDma2_eq 𝒱₀ (c : Thread nD τ) none Set.univ) (Set.mem_univ _) () (O := owedL c js) (W := W) (R := 0) (m := 0) (T := ∅)
      (by rw [Nat.zero_add, expect_recv]; exact hN)) $$ [Hc HO Hat]
  · isplitr; · iexact HI
    isplitl [Hc]; · rw [hN]; iexact Hc
    isplitl [HO]; · iexact HO
    isplitr
    · iapply (mayWait_owedL c (.dma (recvQ j)) js (by rw [lvl_recv]; intro j' hj'; have := hjs j' hj'; omega)) $$ HL
    iexact Hat
  iintro ⟨HO, Hat, -, Hpay⟩
  ihave Hp := (Entails.of_eq (rest_recv m c j)) $$ Hpay
  imod (Rounds.cell_close ER (ringRd m) (Set.mem_univ κ) (fun h => h) (R := 0 + 1) (duties_later m (recvCell c j))) $$ [Hat] with Hz
  · isplitr; · iexact HI
    iexact Hat
  iapply Hk
  isplitl [HO]; · iexists _; iexact HO
  isplitl [Hz] <;> iassumption

/-- The wait for the device's own transfer `j` to have left, when it owes nothing more. -/
theorem wp_wait_send {α : Type} {Q : α → sProp 𝕄} {k : PUnit → Prog (TpuEff nD τ sig (Elt F) Λ₀ .tc) α}
    (c : Dev nD) (j : Fin 6)
    {s' : Shape} {e' : EltTy} {sp' sp : Space} {s : Shape} {e : EltTy} {κ' : Kind}
    (q : DmaSem sig) (hq : q = sendQ j)
    {srcw : Memref sig .tc sp' s' e'} {dstw : Memref sig κ' sp s e} {hsrc : srcw.view.WordExact} {hdst : dstw.view.WordExact}
    (hN : dstw.view.dmaCredit = N) :
    iprop(records m ∗ cred (tallyAt (sendCell c j) () N) ∗ ow c (owedL c []) ∗ atPos ER (sendCell c j) 0 ∅ 0)
      ⊢ iprop((iprop(ow c (owedL c []) ∗ semVal (sendCell c j) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  subst hq
  unfold ow
  iintro ⟨#HR, Hc, ⟨%W, HO⟩, Hat⟩ Hk
  ihave #Hr := (rec_send m c j) $$ HR
  unfold recOf
  icases Hr with ⟨⟨%κ, #HI⟩, -⟩
  iapply (Rounds.wp_wait_rest_token 𝒱₀ ER (ringRd m) (c : Thread nD τ) none (κ := κ)
      (wpE_waitDma2_eq 𝒱₀ (c : Thread nD τ) none Set.univ) (Set.mem_univ _) () (O := owedL c []) (W := W) (R := 0) (m := 0) (T := ∅)
      (by rw [Nat.zero_add, expect_send]; exact hN)) $$ [Hc HO Hat]
  · isplitr; · iexact HI
    isplitl [Hc]; · rw [hN]; iexact Hc
    isplitl [HO]; · iexact HO
    isplitr
    · rw [show owedL c [] = 0 from rfl, MayWait_zero]; iempintro
    iexact Hat
  iintro ⟨HO, Hat, -, -⟩
  imod (Rounds.cell_close ER (ringRd m) (Set.mem_univ κ) (fun h => h) (R := 0 + 1) (duties_later m (sendCell c j))) $$ [Hat] with Hz
  · isplitr; · iexact HI
    iexact Hat
  iapply Hk
  isplitl [HO]; · iexists _; iexact HO
  iexact Hz

omit [FloatOps F] in
/-- What a transfer of the right rows leaves in its landing region. -/
theorem landed_eq (c : Dev nD) (j : Fin 6) (fd : Buf (Elt F) ((c : Thread nD τ).loc main_v1_1)) :
    ((landM c j).view.loc (c : Thread nD τ) ↦[(landM c j).view.set]{fullShare}
        ((landM c j).view.write (Elt F) fd ((landM c j).view.read (Elt F) (gath m)) Finset.univ) : sProp 𝕄)
      = landPts c j fullShare (gath m) := by
  unfold landPts
  refine pointsTo_congr fun i hi => ?_
  obtain ⟨x, -, rfl⟩ := Finset.mem_map.mp hi
  exact View.write_emb_of_mem (Val := Elt F) (v := (landM c j).view) fd _ (Finset.mem_univ x)

/-- The start of transfer `j`: from any share of a source that reads the rows of the landing region, into the neighbour's
    region, with the two duties' tokens; the source's share is not needed again. -/
theorem wp_send {α : Type} {Q : α → sProp 𝕄} {k : PUnit → Prog (TpuEff nD τ sig (Elt F) Λ₀ .tc) α}
    (c n : Dev nD) (j : Fin 6) (hn : n = tgt c j) (js : List (Fin 6))
    (src : Memref sig .tc .hbm S1024x8192 .f32) (off : Fin 2 → ℕ) (inb : ∀ a, off a + S1024x8192.size a ≤ S8192x8192.size a)
    (hoff : off = ![landRow (tgt c j) j, 0]) (qS qR : DmaSem sig) (hqS : qS = sendQ j) (hqR : qR = recvQ j)
    {hsc : (gHalf off inb : Memref sig (Dev.tc n : Thread nD τ).2.kind .hbm S1024x8192 .f32).view.ref.isScScratch = false}
    {hsrc : src.view.WordExact} {hdst : (gHalf off inb).view.WordExact}
    {hsem : DmaTarget.Typed .hbm (.dma qR) (.remote (Dev.tc n : Thread nD τ) (gHalf off inb) (.dma qS) hsc)}
    (qs : PosShare TreeShare) (fs : Buf (Elt F) (src.view.loc (c : Thread nD τ)))
    (hread : src.view.read (Elt F) fs = (landM (tgt c j) j).view.read (Elt F) (gath m)) :
    iprop(records m ∗ (src.view.loc (c : Thread nD τ) ↦[src.view.set]{qs} fs) ∗ (∃ f, landPts (F := F) (tgt c j) j fullShare f)
        ∗ ow c (owedL c (j :: js))
        ∗ dutyTok ER (sendCell c j) 0 false ∗ dutyTok ER (recvCell (tgt c j) j) 0 false)
      ⊢ iprop((iprop(cred (tallyAt (sendCell c j) () N) ∗ ow c (owedL c js))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) (gHalf off inb) (.dma qS) hsc) (.dma qR) hsrc hdst hsem) k) Q) := by
  subst hn; subst hqS; subst hqR; subst hoff
  unfold ow
  iintro ⟨#HR, Hs, ⟨%fd, Hd⟩, ⟨%W, HO⟩, HtS, HtR⟩ Hk
  ihave #Hr1 := (rec_send m c j) $$ HR
  ihave #Hr2 := (rec_recv m (tgt c j) j) $$ HR
  unfold recOf
  icases Hr1 with ⟨⟨%κ₁, #HI1⟩, #Hre1⟩
  icases Hr2 with ⟨⟨%κ₂, #HI2⟩, #Hre2⟩
  have hN : (landM (tgt c j) j).view.amount (.dma (recvQ j)) = N := rfl
  have hr : τ.routes (c : Thread nD τ) (tgt c j : Thread nD τ) = true := by routes
  have h1 : ((src.view.loc (c : Thread nD τ) ↦[src.view.set]{qs} fs) : sProp 𝕄) ⊢ (ringRd m).payload (sendCell c j) 0 false := by
    rw [payload_send]; iintro -; iempintro
  have h2 : ((landM (tgt c j) j).view.loc (tgt c j : Thread nD τ) ↦[(landM (tgt c j) j).view.set]{fullShare}
        ((landM (tgt c j) j).view.write (Elt F) fd (src.view.read (Elt F) fs) Finset.univ) : sProp 𝕄) ⊢ (ringRd m).payload (recvCell (tgt c j) j) 0 false := by
    rw [payload_recv, hread]; exact Entails.of_eq (landed_eq m (tgt c j) j fd)
  have hd1 : false ∈ (ringRd (F := F) m).duties (sendCell c j) 0 := by rw [duties_send]; exact Finset.mem_singleton_self _
  have hd2 : false ∈ (ringRd (F := F) m).duties (recvCell (tgt c j) j) 0 := by rw [duties_recv]; exact Finset.mem_singleton_self _
  iapply (Rounds.wp_send_pointsTo 𝒱₀ ER (ringRd m) (c : Thread nD τ) none (κ₁ := κ₁) (κ₂ := κ₂) (hsrc := hsrc) (hdst := hdst) (hsem := hsem)
    (r₁ := 0) (r₂ := 0) (d₁ := false) (d₂ := false) (fd := fd) (fs := fs) (q := qs)
    hd1 hd2 () () N hN (amount_dma m c (sendQ j) false) (amount_dma m (tgt c j) (recvQ j) false) (owedL c js) rfl (W := W) h1 h2 hr) $$ [Hs Hd HO HtS HtR]
  · isplitr; · iexact HI1
    isplitr; · iexact HI2
    isplitl [Hs]; · iexact Hs
    isplitl [Hd]; · unfold landPts; iexact Hd
    isplitl [HO]; · iexact HO
    isplitl [HtS]; · iexact HtS
    isplitr; · iexact Hre1
    isplitl [HtR]; · iexact HtR
    iexact Hre2
  iintro ⟨Hc, HO⟩
  iapply Hk
  isplitl [Hc]; · iexact Hc
  iexists _; iexact HO

end Cert.Gather

end
-- ==== Proof.Body.lean ====
/-
# The body

The kernel's body on device `c`, step by step: from the device's tokens, credits and buffers at launch to the whole result,
with every cell closed and nothing owed.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The offsets the program computes -/

theorem dev_prv {n : Dev nD} {c : Dev nD} (h : n.val = (c.val + 3) % 4) : n = prv c := Fin.ext h
theorem dev_nxt {n : Dev nD} {c : Dev nD} (h : n.val = (c.val + 1) % 4) : n = nxt c := Fin.ext h

theorem off_own0 : ∀ c : Dev nD, k0_off1 c = ![landRow (tgt c 0) 0, 0] := by decide +kernel
theorem off_own3 : ∀ c : Dev nD, k0_off2 c = ![landRow (tgt c 3) 3, 0] := by decide +kernel
theorem off_fwd1 : ∀ c : Dev nD, k0_off5 c 0#32 = ![landRow (tgt c 1) 1, 0] := by decide +kernel
theorem off_fwd4 : ∀ c : Dev nD, k0_off6 c 0#32 = ![landRow (tgt c 4) 4, 0] := by decide +kernel
theorem off_fwd2 : ∀ c : Dev nD, k0_off5 c 1#32 = ![landRow (tgt c 2) 2, 0] := by decide +kernel
theorem off_fwd5 : ∀ c : Dev nD, k0_off6 c 1#32 = ![landRow (tgt c 5) 5, 0] := by decide +kernel

theorem loop_off1 : ∀ k : Fin k0_t1_loop.trips, k0_off3 k = ![512 * k.val, 0] := by decide +kernel
theorem loop_out1 : ∀ (c : Dev nD) (k : Fin k0_t1_loop.trips), k0_off4 c k = ![2048 * c.val + 512 * k.val, 0] := by decide +kernel
theorem loop_off2 : ∀ (c : Dev nD) (k : Fin k0_t2_loop.trips), k0_off7 c k = ![landRow c 0 + 512 * k.val, 0] := by decide +kernel
theorem loop_out2 : ∀ (c : Dev nD) (k : Fin k0_t2_loop.trips), k0_off8 c k = ![landRow c 0 + 512 * k.val, 0] := by decide +kernel
theorem loop_off3 : ∀ (c : Dev nD) (k : Fin k0_t3_loop.trips), k0_off9 c k = ![landRow c 3 + 512 * k.val, 0] := by decide +kernel
theorem loop_out3 : ∀ (c : Dev nD) (k : Fin k0_t3_loop.trips), k0_off10 c k = ![landRow c 3 + 512 * k.val, 0] := by decide +kernel
theorem loop_off4 : ∀ (c : Dev nD) (k : Fin k0_t4_loop.trips), k0_off11 c k = ![landRow c 1 + 512 * k.val, 0] := by decide +kernel
theorem loop_out4 : ∀ (c : Dev nD) (k : Fin k0_t4_loop.trips), k0_off12 c k = ![landRow c 1 + 512 * k.val, 0] := by decide +kernel
theorem loop_off5 : ∀ (c : Dev nD) (k : Fin k0_t5_loop.trips), k0_off13 c k = ![landRow c 4 + 512 * k.val, 0] := by decide +kernel
theorem loop_out5 : ∀ (c : Dev nD) (k : Fin k0_t5_loop.trips), k0_off14 c k = ![landRow c 4 + 512 * k.val, 0] := by decide +kernel
theorem loop_off6 : ∀ (c : Dev nD) (k : Fin k0_t6_loop.trips), k0_off15 c k = ![landRow c 2 + 512 * k.val, 0] := by decide +kernel
theorem loop_out6 : ∀ (c : Dev nD) (k : Fin k0_t6_loop.trips), k0_off16 c k = ![landRow c 2 + 512 * k.val, 0] := by decide +kernel
theorem loop_off7 : ∀ (c : Dev nD) (k : Fin k0_t7_loop.trips), k0_off17 c k = ![landRow c 5 + 512 * k.val, 0] := by decide +kernel
theorem loop_out7 : ∀ (c : Dev nD) (k : Fin k0_t7_loop.trips), k0_off18 c k = ![landRow c 5 + 512 * k.val, 0] := by decide +kernel

theorem own_row0 : ∀ c : Dev nD, landRow (tgt c 0) 0 = 2048 * c.val + 0 := by decide
theorem own_row3 : ∀ c : Dev nD, landRow (tgt c 3) 3 = 2048 * c.val + 1024 := by decide
theorem fwd_row1 : ∀ c : Dev nD, landRow c 0 = landRow (tgt c 1) 1 := by decide
theorem fwd_row4 : ∀ c : Dev nD, landRow c 3 = landRow (tgt c 4) 4 := by decide
theorem fwd_row2 : ∀ c : Dev nD, landRow c 1 = landRow (tgt c 2) 2 := by decide
theorem fwd_row5 : ∀ c : Dev nD, landRow c 4 = landRow (tgt c 5) 5 := by decide

theorem row_of {r r' : ℕ} (h : r = r') : (![r, 0] : Fin 2 → ℕ) = ![r', 0] := by rw [h]

theorem landRow0 (c : Dev nD) : landRow c 0 = 2048 * ((c.val + 3) % 4) := by revert c; decide
theorem landRow3 (c : Dev nD) : landRow c 3 = 2048 * ((c.val + 1) % 4) + 1024 := by revert c; decide
theorem landRow1 (c : Dev nD) : landRow c 1 = 2048 * ((c.val + 2) % 4) := by revert c; decide
theorem landRow4 (c : Dev nD) : landRow c 4 = 2048 * ((c.val + 2) % 4) + 1024 := by revert c; decide
theorem landRow2 (c : Dev nD) : landRow c 2 = 2048 * ((c.val + 1) % 4) := by revert c; decide
theorem landRow5 (c : Dev nD) : landRow c 5 = 2048 * ((c.val + 3) % 4) + 1024 := by revert c; decide

/-! ## The transfers by their sources -/

section
variable {α : Type} {k : PUnit → Prog (TpuEff nD τ sig (Elt F) Λ₀ .tc) α}

/-- A first hop, from the device's own rows. -/
theorem wp_send_own {Q : α → sProp 𝕄} (c n : Dev nD) (j : Fin 6) (hn : n = tgt c j) (js : List (Fin 6)) (o : ℕ)
    (inbS : ∀ a, (![o, 0] : Fin 2 → ℕ) a + S1024x8192.size a ≤ S2048x8192.size a) (off : Fin 2 → ℕ) (inb : ∀ a, off a + S1024x8192.size a ≤ S8192x8192.size a)
    (hoff : off = ![landRow (tgt c j) j, 0]) (hrow : landRow (tgt c j) j = 2048 * c.val + o)
    (qS qR : DmaSem sig) (hqS : qS = sendQ j) (hqR : qR = recvQ j)
    {hsc : (gHalf off inb : Memref sig (Dev.tc n : Thread nD τ).2.kind .hbm S1024x8192 .f32).view.ref.isScScratch = false}
    {hsrc : (xHalf ![o, 0] inbS).view.WordExact} {hdst : (gHalf off inb).view.WordExact}
    {hsem : DmaTarget.Typed .hbm (.dma qR) (.remote (Dev.tc n : Thread nD τ) (gHalf off inb) (.dma qS) hsc)} (qs : PosShare TreeShare) :
    iprop(records m ∗ ((xHalf ![o, 0] inbS).view.loc (c : Thread nD τ) ↦[(xHalf ![o, 0] inbS).view.set]{qs} xC m c)
        ∗ (∃ f, landPts (F := F) (tgt c j) j fullShare f) ∗ ow c (owedL c (j :: js))
        ∗ dutyTok ER (sendCell c j) 0 false ∗ dutyTok ER (recvCell (tgt c j) j) 0 false)
      ⊢ iprop((iprop(cred (tallyAt (sendCell c j) () N) ∗ ow c (owedL c js))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xHalf ![o, 0] inbS) (.remote (Dev.tc n : Thread nD τ) (gHalf off inb) (.dma qS) hsc) (.dma qR) hsrc hdst hsem) k) Q) :=
  wp_send m c n j hn js (xHalf ![o, 0] inbS) off inb hoff qS qR hqS hqR qs (xC m c) (read_own m c o _ hrow inbS _)

omit [FloatOps F] in
/-- A landing region as the slice at its offset. -/
theorem land_as (c : Dev nD) (i : Fin 6) (q : PosShare TreeShare) (f : Buf (Elt F) ((c : Thread nD τ).loc main_v1_1)) (off : Fin 2 → ℕ)
    (inb : ∀ a, off a + S1024x8192.size a ≤ S8192x8192.size a) (h : off = ![landRow c i, 0]) :
    (landPts c i q f : sProp 𝕄) = ((gHalf off inb).view.loc (c : Thread nD τ) ↦[(gHalf off inb).view.set]{q} f) := by
  subst h; rfl

/-- A later hop, from the region the hop before has landed in. -/
theorem wp_send_fwd {Q : α → sProp 𝕄} (c n : Dev nD) (j i : Fin 6) (hn : n = tgt c j) (js : List (Fin 6))
    (off : Fin 2 → ℕ) (inb : ∀ a, off a + S1024x8192.size a ≤ S8192x8192.size a)
    (hoff : off = ![landRow (tgt c j) j, 0]) (hrow : landRow c i = landRow (tgt c j) j)
    (qS qR : DmaSem sig) (hqS : qS = sendQ j) (hqR : qR = recvQ j)
    {hsc : (gHalf off inb : Memref sig (Dev.tc n : Thread nD τ).2.kind .hbm S1024x8192 .f32).view.ref.isScScratch = false}
    {hsrc : (gHalf off inb).view.WordExact} {hdst : (gHalf off inb).view.WordExact}
    {hsem : DmaTarget.Typed .hbm (.dma qR) (.remote (Dev.tc n : Thread nD τ) (gHalf off inb) (.dma qS) hsc)} (qs : PosShare TreeShare) :
    iprop(records m ∗ landPts c i qs (gath m)
        ∗ (∃ f, landPts (F := F) (tgt c j) j fullShare f) ∗ ow c (owedL c (j :: js))
        ∗ dutyTok ER (sendCell c j) 0 false ∗ dutyTok ER (recvCell (tgt c j) j) 0 false)
      ⊢ iprop((iprop(cred (tallyAt (sendCell c j) () N) ∗ ow c (owedL c js))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gHalf off inb) (.remote (Dev.tc n : Thread nD τ) (gHalf off inb) (.dma qS) hsc) (.dma qR) hsrc hdst hsem) k) Q) := by
  rw [land_as c i qs (gath m) off inb (hoff.trans (row_of hrow.symm))]
  exact wp_send m c n j hn js (gHalf off inb) off inb hoff qS qR hqS hqR qs (gath m) (by subst hoff; rfl)

end

/-! ## The loops' bodies are trips -/

theorem trip1 (c : Dev nD) (v2 v5 v7 : BitVec 32) (k : Fin k0_t1_loop.trips) :
    k0_t1_body (F := F) xM (Memref.isWhole_whole _) wM (Memref.isWhole_whole _) outM (Memref.isWhole_whole _) gM (Memref.isWhole_whole _) aM (Memref.isWhole_whole _) oM (Memref.isWhole_whole _) cc0_scratch2 cc0_scratch3 cc0_scratch4 cc0_scratch5 c v2 v5 v7 k ⟨⟩
      = tripProg (xRows (k0_off3 k) (k0_off3_inb k)) (outRows (k0_off4 c k) (k0_off4_inb c k)) (View.wordExact_bits rfl) (View.wordExact_bits rfl) := rfl
theorem trip2 (c : Dev nD) (v2 v5 v7 v41 v43 : BitVec 32) (k : Fin k0_t2_loop.trips) :
    k0_t2_body (F := F) xM (Memref.isWhole_whole _) wM (Memref.isWhole_whole _) outM (Memref.isWhole_whole _) gM (Memref.isWhole_whole _) aM (Memref.isWhole_whole _) oM (Memref.isWhole_whole _) cc0_scratch2 cc0_scratch3 cc0_scratch4 cc0_scratch5 c v2 v5 v7 v41 v43 k ⟨⟩
      = tripProg (gRows (k0_off7 c k) (k0_off7_inb c k)) (outRows (k0_off8 c k) (k0_off8_inb c k)) (View.wordExact_bits rfl) (View.wordExact_bits rfl) := rfl
theorem trip3 (c : Dev nD) (v2 v5 v7 v41 v43 : BitVec 32) (k : Fin k0_t3_loop.trips) :
    k0_t3_body (F := F) xM (Memref.isWhole_whole _) wM (Memref.isWhole_whole _) outM (Memref.isWhole_whole _) gM (Memref.isWhole_whole _) aM (Memref.isWhole_whole _) oM (Memref.isWhole_whole _) cc0_scratch2 cc0_scratch3 cc0_scratch4 cc0_scratch5 c v2 v5 v7 v41 v43 k ⟨⟩
      = tripProg (gRows (k0_off9 c k) (k0_off9_inb c k)) (outRows (k0_off10 c k) (k0_off10_inb c k)) (View.wordExact_bits rfl) (View.wordExact_bits rfl) := rfl
theorem trip4 (c : Dev nD) (v2 v5 v7 v81 v83 : BitVec 32) (k : Fin k0_t4_loop.trips) :
    k0_t4_body (F := F) xM (Memref.isWhole_whole _) wM (Memref.isWhole_whole _) outM (Memref.isWhole_whole _) gM (Memref.isWhole_whole _) aM (Memref.isWhole_whole _) oM (Memref.isWhole_whole _) cc0_scratch2 cc0_scratch3 cc0_scratch4 cc0_scratch5 c v2 v5 v7 v81 v83 k ⟨⟩
      = tripProg (gRows (k0_off11 c k) (k0_off11_inb c k)) (outRows (k0_off12 c k) (k0_off12_inb c k)) (View.wordExact_bits rfl) (View.wordExact_bits rfl) := rfl
theorem trip5 (c : Dev nD) (v2 v5 v7 v81 v83 : BitVec 32) (k : Fin k0_t5_loop.trips) :
    k0_t5_body (F := F) xM (Memref.isWhole_whole _) wM (Memref.isWhole_whole _) outM (Memref.isWhole_whole _) gM (Memref.isWhole_whole _) aM (Memref.isWhole_whole _) oM (Memref.isWhole_whole _) cc0_scratch2 cc0_scratch3 cc0_scratch4 cc0_scratch5 c v2 v5 v7 v81 v83 k ⟨⟩
      = tripProg (gRows (k0_off13 c k) (k0_off13_inb c k)) (outRows (k0_off14 c k) (k0_off14_inb c k)) (View.wordExact_bits rfl) (View.wordExact_bits rfl) := rfl
theorem trip6 (c : Dev nD) (v5 v121 v123 v124 : BitVec 32) (k : Fin k0_t6_loop.trips) :
    k0_t6_body (F := F) xM (Memref.isWhole_whole _) wM (Memref.isWhole_whole _) outM (Memref.isWhole_whole _) gM (Memref.isWhole_whole _) aM (Memref.isWhole_whole _) oM (Memref.isWhole_whole _) cc0_scratch2 cc0_scratch3 cc0_scratch4 cc0_scratch5 c v5 v121 v123 v124 k ⟨⟩
      = tripProg (gRows (k0_off15 c k) (k0_off15_inb c k)) (outRows (k0_off16 c k) (k0_off16_inb c k)) (View.wordExact_bits rfl) (View.wordExact_bits rfl) := rfl
theorem trip7 (c : Dev nD) (v5 v121 v123 v124 : BitVec 32) (k : Fin k0_t7_loop.trips) :
    k0_t7_body (F := F) xM (Memref.isWhole_whole _) wM (Memref.isWhole_whole _) outM (Memref.isWhole_whole _) gM (Memref.isWhole_whole _) aM (Memref.isWhole_whole _) oM (Memref.isWhole_whole _) cc0_scratch2 cc0_scratch3 cc0_scratch4 cc0_scratch5 c v5 v121 v123 v124 k ⟨⟩
      = tripProg (gRows (k0_off17 c k) (k0_off17_inb c k)) (outRows (k0_off18 c k) (k0_off18_inb c k)) (View.wordExact_bits rfl) (View.wordExact_bits rfl) := rfl

/-! ## The body -/

/-- Of each transfer `j`, what device `c` starts with: its place at the send and the receive cell, the tokens of the two
    duties its own transfer pays, the credit of the one it receives, and the region that one lands in. -/
def lane (c : Dev nD) (j : Fin 6) : sProp 𝕄 :=
  iprop(atPos ER (sendCell c j) 0 ∅ 0 ∗ atPos ER (recvCell c j) 0 ∅ 0
    ∗ dutyTok ER (sendCell c j) 0 false ∗ dutyTok ER (recvCell (tgt c j) j) 0 false
    ∗ cred (tallyAt (recvCell c j) () N) ∗ ∃ f, landPts (F := F) c j fullShare f)

/-- What device `c` starts with at the barrier. -/
def gate (c : Dev nD) : sProp 𝕄 :=
  iprop(atPos ER (barCell c) 0 ∅ 0 ∗ dutyTok ER (barCell (prv c)) 0 true ∗ dutyTok ER (barCell (nxt c)) 0 false
    ∗ cred (tallyAt (barCell c) () 2))

/-- And of each transfer, what it ends with: both counters at zero. -/
def shut (c : Dev nD) (j : Fin 6) : sProp 𝕄 := iprop(semVal (sendCell c j) 0 ∗ semVal (recvCell c j) 0)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

def bodyStart (c : Dev nD) : sProp 𝕄 :=
  iprop(records m ∗ levAts L lv ∗ gate c ∗ bigSep Finset.univ (lane c)
    ∗ (xM.view.loc (c : Thread nD τ) ↦[Finset.univ]{fullShare} xC m c) ∗ kit m c ∅ ∗ ow c (O₀ c))

theorem work_intro (c : Dev nD) (D : Finset ℕ) (O : CellTallies nD τ sig Unit) : iprop(kit m c D ∗ ow c O) ⊢ work m c D O := .rfl

/-- The tiles all loops have done together. -/
def allTiles (c : Dev nD) : Finset ℕ :=
  ∅ ∪ Finset.Ico (4 * c.val) (4 * c.val + 4) ∪ Finset.Ico (landRow c 0 / 512) (landRow c 0 / 512 + 2) ∪ Finset.Ico (landRow c 3 / 512) (landRow c 3 / 512 + 2)
    ∪ Finset.Ico (landRow c 1 / 512) (landRow c 1 / 512 + 2) ∪ Finset.Ico (landRow c 4 / 512) (landRow c 4 / 512 + 2)
    ∪ Finset.Ico (landRow c 2 / 512) (landRow c 2 / 512 + 2) ∪ Finset.Ico (landRow c 5 / 512) (landRow c 5 / 512 + 2)

def bodyEnd (c : Dev nD) : sProp 𝕄 :=
  iprop(semVal (barCell c) 0 ∗ bigSep Finset.univ (shut (F := F) c)
    ∗ (xM.view.loc (c : Thread nD τ) ↦[Finset.univ]{fullShare.right} xC m c) ∗ kit m c (allTiles c) ∗ ow c 0)

omit [FloatOps F] in
/-- The device's own rows, a left share of each half for the transfers and a right share of all for its loop. -/
theorem x_shares (c : Dev nD) (inb0 inb1) :
    (xM.view.loc (c : Thread nD τ) ↦[Finset.univ]{fullShare} xC m c : sProp 𝕄)
      ⊢ iprop(((xHalf ![0, 0] inb0).view.loc (c : Thread nD τ) ↦[(xHalf ![0, 0] inb0).view.set]{fullShare.left} xC m c)
        ∗ ((xHalf ![1024, 0] inb1).view.loc (c : Thread nD τ) ↦[(xHalf ![1024, 0] inb1).view.set]{fullShare.left} xC m c)
        ∗ (xM.view.loc (c : Thread nD τ) ↦[Finset.univ]{fullShare.right} xC m c)) := by
  have hsub : (xHalf ![1024, 0] inb1).view.set ⊆ Finset.univ \ (xHalf ![0, 0] inb0).view.set := by
    intro i hi
    refine Finset.mem_sdiff.mpr ⟨Finset.mem_univ _, fun hi' => ?_⟩
    rw [View.set_slice_whole] at hi hi'
    have h1 := (Rect.mem_set_unit.mp hi 0).1
    have h2 := (Rect.mem_set_unit.mp hi' 0).2
    have h1' : 1024 ≤ (i 0).val := h1
    have h2' : (i 0).val < 0 + 1024 := h2
    omega
  iintro H
  ihave H := (pointsTo_share (PosShare.mem_left_op_right fullShare)).1 $$ H
  icases H with ⟨Hl, Hr⟩
  ihave Hl := (pointsTo_split_subset (ℓ := xM.view.loc (c : Thread nD τ)) (I := (xHalf ![0, 0] inb0).view.set) (q := fullShare.left) (f := xC m c) (Finset.subset_univ _)).1 $$ Hl
  icases Hl with ⟨H0, Hl⟩
  ihave Hl := (pointsTo_split_subset (ℓ := xM.view.loc (c : Thread nD τ)) (I := (xHalf ![1024, 0] inb1).view.set) (q := fullShare.left) (f := xC m c) hsub).1 $$ Hl
  icases Hl with ⟨H1, -⟩
  isplitl [H0]; · iexact H0
  isplitl [H1] <;> iassumption

omit [FloatOps F] in
theorem land_shares (c : Dev nD) (j : Fin 6) (f) :
    (landPts c j fullShare f : sProp 𝕄) ⊢ iprop(landPts c j fullShare.left f ∗ landPts c j fullShare.right f) := by
  unfold landPts; exact (pointsTo_share (PosShare.mem_left_op_right fullShare)).1

set_option maxHeartbeats 1600000 in
theorem sound_body (c : Dev nD) (Kt : PUnit → sProp 𝕄) :
    iprop(bodyStart m c ∗ (bodyEnd m c -∗ Kt ⟨⟩))
      ⊢ wp frame (wpE (defs₀ (F := F)) 𝒱₀ (c : Thread nD τ) none) Set.univ
          (cc0_body (F := F) xM (Memref.isWhole_whole _) wM (Memref.isWhole_whole _) outM (Memref.isWhole_whole _) gM (Memref.isWhole_whole _)
            aM (Memref.isWhole_whole _) oM (Memref.isWhole_whole _) cc0_scratch2 cc0_scratch3 cc0_scratch4 cc0_scratch5) Kt := by
  simp only [cc0_body_eq_skeleton, k0_part1_eq_skeleton, k0_part2_eq_skeleton, k0_part3_eq_skeleton, k0_part4_eq_skeleton, k0_part5_eq_skeleton, k0_part6_eq_skeleton]
  unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  unfold bodyStart bodyEnd gate
  rw [bigSep_fin6, bigSep_fin6]
  unfold lane shut
  iintro ⟨⟨#HR, #HL, ⟨HaB, HtB1, HtB2, HcB⟩, ⟨⟨HaS0, HaR0, HtS0, HtR0, Hcr0, Hd0⟩, ⟨HaS1, HaR1, HtS1, HtR1, Hcr1, Hd1⟩, ⟨HaS2, HaR2, HtS2, HtR2, Hcr2, Hd2⟩, ⟨HaS3, HaR3, HtS3, HtR3, Hcr3, Hd3⟩, ⟨HaS4, HaR4, HtS4, HtR4, Hcr4, Hd4⟩, ⟨HaS5, HaR5, HtS5, HtR5, Hcr5, Hd5⟩⟩, Hx, Hkit, HO⟩, Hpost⟩
  -- the regions the left neighbour fills are handed to it, then those the right one fills
  iapply (wp_signal_prv m c ⟨k0_dev1 c, k0_dev1_lt c⟩ (dev_prv (k0_dev1_eq c)) _ rfl) $$ [HO HtB1 Hd0 Hd1 Hd2]
  · isplitr; · iexact HR
    isplitl [HO]; · iexact HO
    isplitl [HtB1]; · iexact HtB1
    isplitl [Hd0]; · iexact Hd0
    isplitl [Hd1] <;> iassumption
  iintro HO
  iapply (wp_signal_nxt m c ⟨k0_dev2 c, k0_dev2_lt c⟩ (dev_nxt (k0_dev2_eq c)) _ rfl) $$ [HO HtB2 Hd3 Hd4 Hd5]
  · isplitr; · iexact HR
    isplitl [HO]; · iexact HO
    isplitl [HtB2]; · iexact HtB2
    isplitl [Hd3]; · iexact Hd3
    isplitl [Hd4] <;> iassumption
  iintro HO
  -- and both neighbours have handed over theirs
  iapply (wp_wait_bar m c _ rfl) $$ [HcB HO HaB]
  · isplitr; · iexact HR
    isplitr; · iexact HL
    isplitl [HcB]; · iexact HcB
    isplitl [HO] <;> iassumption
  iintro ⟨HO, HvB, HpL, HpR⟩
  unfold barPayL barPayR
  icases HpL with ⟨Hp3, Hp4, Hp5⟩
  icases HpR with ⟨Hp0, Hp1, Hp2⟩
  ihave Hx := (x_shares m c inb_S2048x8192_S1024x8192_0_0 inb_S2048x8192_S1024x8192_1024_0) $$ Hx
  icases Hx with ⟨Hx0, Hx1, Hx⟩
  -- transfer 0: the device's own half
  iapply (wp_send_own m c ⟨k0_dev3 c, k0_dev3_lt c⟩ 0 (dev_nxt (k0_dev3_eq c)) [3, 1, 4, 2, 5] 0 _ (k0_off1 c) (k0_off1_inb c)
    (off_own0 c) (own_row0 c) _ _ rfl rfl fullShare.left) $$ [Hx0 Hp0 HO HtS0 HtR0]
  · isplitr; · iexact HR
    isplitl [Hx0]; · iexact Hx0
    isplitl [Hp0]; · iexact Hp0
    isplitl [HO]; · iexact HO
    isplitl [HtS0] <;> iassumption
  iintro ⟨Hcs0, HO⟩
  -- transfer 3: the device's own half
  iapply (wp_send_own m c ⟨k0_dev4 c, k0_dev4_lt c⟩ 3 (dev_prv (k0_dev4_eq c)) [1, 4, 2, 5] 1024 _ (k0_off2 c) (k0_off2_inb c)
    (off_own3 c) (own_row3 c) _ _ rfl rfl fullShare.left) $$ [Hx1 Hp3 HO HtS3 HtR3]
  · isplitr; · iexact HR
    isplitl [Hx1]; · iexact Hx1
    isplitl [Hp3]; · iexact Hp3
    isplitl [HO]; · iexact HO
    isplitl [HtS3] <;> iassumption
  iintro ⟨Hcs3, HO⟩
  ihave Hwk := (work_intro m c _ _) $$ [Hkit HO]
  · isplitl [Hkit] <;> iassumption
  -- the four tiles of the device's own rows
  iapply (wp_loop_x m c fullShare.right k0_t1_loop k0_t1_ok (by decide) k0_off3 (k0_off4 c) k0_off3_inb (k0_off4_inb c) loop_off1 (loop_out1 c)
    (fun _ => View.wordExact_bits rfl) (fun _ => View.wordExact_bits rfl) (owedL c [1, 4, 2, 5]) (mayWait_owedL c _ [1, 4, 2, 5] (by decide)) (mayWait_owedL c _ [1, 4, 2, 5] (by decide))
    _ (fun k => trip1 c _ _ _ k)) $$ [Hx Hwk]
  · isplitr; · iexact HL
    isplitl [Hx] <;> iassumption
  iintro ⟨Hx, Hwk⟩
  unfold work
  icases Hwk with ⟨Hkit, HO⟩
  -- transfer 0 has landed
  iapply (wp_wait_recv m c 0 [1, 4, 2, 5] (by decide) (recvQ 0) rfl (srcw := gHalf (k0_off5 c 0#32) (k0_off5_inb c 0))
    (dstw := gHalf (k0_off5 c 0#32) (k0_off5_inb c 0)) (hsrc := View.wordExact_bits rfl) (hdst := View.wordExact_bits rfl) rfl) $$ [Hcr0 HO HaR0]
  · isplitr; · iexact HR
    isplitr; · iexact HL
    isplitl [Hcr0]; · iexact Hcr0
    isplitl [HO] <;> iassumption
  iintro ⟨HO, HvR0, Hg0⟩
  -- transfer 3 has landed
  iapply (wp_wait_recv m c 3 [1, 4, 2, 5] (by decide) (recvQ 3) rfl (srcw := gHalf (k0_off6 c 0#32) (k0_off6_inb c 0))
    (dstw := gHalf (k0_off6 c 0#32) (k0_off6_inb c 0)) (hsrc := View.wordExact_bits rfl) (hdst := View.wordExact_bits rfl) rfl) $$ [Hcr3 HO HaR3]
  · isplitr; · iexact HR
    isplitr; · iexact HL
    isplitl [Hcr3]; · iexact Hcr3
    isplitl [HO] <;> iassumption
  iintro ⟨HO, HvR3, Hg3⟩
  -- transfer 1: the region of transfer 0 goes on
  ihave Hg0 := (land_shares c 0 (gath m)) $$ Hg0
  icases Hg0 with ⟨Hl0, Hg0⟩
  iapply (wp_send_fwd m c ⟨k0_dev5 c, k0_dev5_lt c⟩ 1 0 (dev_nxt (k0_dev5_eq c)) [4, 2, 5] (k0_off5 c 0#32) (k0_off5_inb c 0)
    (off_fwd1 c) (fwd_row1 c) _ _ rfl rfl fullShare.left) $$ [Hl0 Hp1 HO HtS1 HtR1]
  · isplitr; · iexact HR
    isplitl [Hl0]; · iexact Hl0
    isplitl [Hp1]; · iexact Hp1
    isplitl [HO]; · iexact HO
    isplitl [HtS1] <;> iassumption
  iintro ⟨Hcs1, HO⟩
  -- transfer 4: the region of transfer 3 goes on
  ihave Hg3 := (land_shares c 3 (gath m)) $$ Hg3
  icases Hg3 with ⟨Hl3, Hg3⟩
  iapply (wp_send_fwd m c ⟨k0_dev6 c, k0_dev6_lt c⟩ 4 3 (dev_prv (k0_dev6_eq c)) [2, 5] (k0_off6 c 0#32) (k0_off6_inb c 0)
    (off_fwd4 c) (fwd_row4 c) _ _ rfl rfl fullShare.left) $$ [Hl3 Hp4 HO HtS4 HtR4]
  · isplitr; · iexact HR
    isplitl [Hl3]; · iexact Hl3
    isplitl [Hp4]; · iexact Hp4
    isplitl [HO]; · iexact HO
    isplitl [HtS4] <;> iassumption
  iintro ⟨Hcs4, HO⟩
  ihave Hwk := (work_intro m c _ _) $$ [Hkit HO]
  · isplitl [Hkit] <;> iassumption
  -- the two tiles of region 0
  iapply (wp_loop_g m c 0 fullShare.right k0_t2_loop k0_t2_ok (by decide) (k0_off7 c) (k0_off8 c) (k0_off7_inb c) (k0_off8_inb c) (loop_off2 c) (loop_out2 c)
    (fun _ => View.wordExact_bits rfl) (fun _ => View.wordExact_bits rfl) (owedL c [2, 5]) (mayWait_owedL c _ [2, 5] (by decide)) (mayWait_owedL c _ [2, 5] (by decide))
    _ (fun k => trip2 c _ _ _ _ _ k)) $$ [Hg0 Hwk]
  · isplitr; · iexact HL
    isplitl [Hg0] <;> iassumption
  iintro ⟨Hg0, Hwk⟩
  -- the two tiles of region 3
  iapply (wp_loop_g m c 3 fullShare.right k0_t3_loop k0_t3_ok (by decide) (k0_off9 c) (k0_off10 c) (k0_off9_inb c) (k0_off10_inb c) (loop_off3 c) (loop_out3 c)
    (fun _ => View.wordExact_bits rfl) (fun _ => View.wordExact_bits rfl) (owedL c [2, 5]) (mayWait_owedL c _ [2, 5] (by decide)) (mayWait_owedL c _ [2, 5] (by decide))
    _ (fun k => trip3 c _ _ _ _ _ k)) $$ [Hg3 Hwk]
  · isplitr; · iexact HL
    isplitl [Hg3] <;> iassumption
  iintro ⟨Hg3, Hwk⟩
  unfold work
  icases Hwk with ⟨Hkit, HO⟩
  -- transfer 1 has landed
  iapply (wp_wait_recv m c 1 [2, 5] (by decide) (recvQ 1) rfl (srcw := gHalf (k0_off5 c 1#32) (k0_off5_inb c 1))
    (dstw := gHalf (k0_off5 c 1#32) (k0_off5_inb c 1)) (hsrc := View.wordExact_bits rfl) (hdst := View.wordExact_bits rfl) rfl) $$ [Hcr1 HO HaR1]
  · isplitr; · iexact HR
    isplitr; · iexact HL
    isplitl [Hcr1]; · iexact Hcr1
    isplitl [HO] <;> iassumption
  iintro ⟨HO, HvR1, Hg1⟩
  -- transfer 4 has landed
  iapply (wp_wait_recv m c 4 [2, 5] (by decide) (recvQ 4) rfl (srcw := gHalf (k0_off6 c 1#32) (k0_off6_inb c 1))
    (dstw := gHalf (k0_off6 c 1#32) (k0_off6_inb c 1)) (hsrc := View.wordExact_bits rfl) (hdst := View.wordExact_bits rfl) rfl) $$ [Hcr4 HO HaR4]
  · isplitr; · iexact HR
    isplitr; · iexact HL
    isplitl [Hcr4]; · iexact Hcr4
    isplitl [HO] <;> iassumption
  iintro ⟨HO, HvR4, Hg4⟩
  -- transfer 2: the region of transfer 1 goes on
  ihave Hg1 := (land_shares c 1 (gath m)) $$ Hg1
  icases Hg1 with ⟨Hl1, Hg1⟩
  iapply (wp_send_fwd m c ⟨k0_dev7 c, k0_dev7_lt c⟩ 2 1 (dev_nxt (k0_dev7_eq c)) [5] (k0_off5 c 1#32) (k0_off5_inb c 1)
    (off_fwd2 c) (fwd_row2 c) _ _ rfl rfl fullShare.left) $$ [Hl1 Hp2 HO HtS2 HtR2]
  · isplitr; · iexact HR
    isplitl [Hl1]; · iexact Hl1
    isplitl [Hp2]; · iexact Hp2
    isplitl [HO]; · iexact HO
    isplitl [HtS2] <;> iassumption
  iintro ⟨Hcs2, HO⟩
  -- transfer 5: the region of transfer 4 goes on
  ihave Hg4 := (land_shares c 4 (gath m)) $$ Hg4
  icases Hg4 with ⟨Hl4, Hg4⟩
  iapply (wp_send_fwd m c ⟨k0_dev8 c, k0_dev8_lt c⟩ 5 4 (dev_prv (k0_dev8_eq c)) [] (k0_off6 c 1#32) (k0_off6_inb c 1)
    (off_fwd5 c) (fwd_row5 c) _ _ rfl rfl fullShare.left) $$ [Hl4 Hp5 HO HtS5 HtR5]
  · isplitr; · iexact HR
    isplitl [Hl4]; · iexact Hl4
    isplitl [Hp5]; · iexact Hp5
    isplitl [HO]; · iexact HO
    isplitl [HtS5] <;> iassumption
  iintro ⟨Hcs5, HO⟩
  ihave Hwk := (work_intro m c _ _) $$ [Hkit HO]
  · isplitl [Hkit] <;> iassumption
  -- the two tiles of region 1
  iapply (wp_loop_g m c 1 fullShare.right k0_t4_loop k0_t4_ok (by decide) (k0_off11 c) (k0_off12 c) (k0_off11_inb c) (k0_off12_inb c) (loop_off4 c) (loop_out4 c)
    (fun _ => View.wordExact_bits rfl) (fun _ => View.wordExact_bits rfl) (owedL c []) (mayWait_owedL c _ [] (by decide)) (mayWait_owedL c _ [] (by decide))
    _ (fun k => trip4 c _ _ _ _ _ k)) $$ [Hg1 Hwk]
  · isplitr; · iexact HL
    isplitl [Hg1] <;> iassumption
  iintro ⟨Hg1, Hwk⟩
  -- the two tiles of region 4
  iapply (wp_loop_g m c 4 fullShare.right k0_t5_loop k0_t5_ok (by decide) (k0_off13 c) (k0_off14 c) (k0_off13_inb c) (k0_off14_inb c) (loop_off5 c) (loop_out5 c)
    (fun _ => View.wordExact_bits rfl) (fun _ => View.wordExact_bits rfl) (owedL c []) (mayWait_owedL c _ [] (by decide)) (mayWait_owedL c _ [] (by decide))
    _ (fun k => trip5 c _ _ _ _ _ k)) $$ [Hg4 Hwk]
  · isplitr; · iexact HL
    isplitl [Hg4] <;> iassumption
  iintro ⟨Hg4, Hwk⟩
  unfold work
  icases Hwk with ⟨Hkit, HO⟩
  -- transfer 2 has landed
  iapply (wp_wait_recv m c 2 [] (by decide) (recvQ 2) rfl (srcw := gHalf (k0_off5 c 2#32) (k0_off5_inb c 2))
    (dstw := gHalf (k0_off5 c 2#32) (k0_off5_inb c 2)) (hsrc := View.wordExact_bits rfl) (hdst := View.wordExact_bits rfl) rfl) $$ [Hcr2 HO HaR2]
  · isplitr; · iexact HR
    isplitr; · iexact HL
    isplitl [Hcr2]; · iexact Hcr2
    isplitl [HO] <;> iassumption
  iintro ⟨HO, HvR2, Hg2⟩
  -- transfer 5 has landed
  iapply (wp_wait_recv m c 5 [] (by decide) (recvQ 5) rfl (srcw := gHalf (k0_off6 c 2#32) (k0_off6_inb c 2))
    (dstw := gHalf (k0_off6 c 2#32) (k0_off6_inb c 2)) (hsrc := View.wordExact_bits rfl) (hdst := View.wordExact_bits rfl) rfl) $$ [Hcr5 HO HaR5]
  · isplitr; · iexact HR
    isplitr; · iexact HL
    isplitl [Hcr5]; · iexact Hcr5
    isplitl [HO] <;> iassumption
  iintro ⟨HO, HvR5, Hg5⟩
  ihave Hwk := (work_intro m c _ _) $$ [Hkit HO]
  · isplitl [Hkit] <;> iassumption
  -- the two tiles of region 2
  iapply (wp_loop_g m c 2 fullShare k0_t6_loop k0_t6_ok (by decide) (k0_off15 c) (k0_off16 c) (k0_off15_inb c) (k0_off16_inb c) (loop_off6 c) (loop_out6 c)
    (fun _ => View.wordExact_bits rfl) (fun _ => View.wordExact_bits rfl) (owedL c []) (mayWait_owedL c _ [] (by decide)) (mayWait_owedL c _ [] (by decide))
    _ (fun k => trip6 c _ _ _ _ k)) $$ [Hg2 Hwk]
  · isplitr; · iexact HL
    isplitl [Hg2] <;> iassumption
  iintro ⟨Hg2, Hwk⟩
  -- the two tiles of region 5
  iapply (wp_loop_g m c 5 fullShare k0_t7_loop k0_t7_ok (by decide) (k0_off17 c) (k0_off18 c) (k0_off17_inb c) (k0_off18_inb c) (loop_off7 c) (loop_out7 c)
    (fun _ => View.wordExact_bits rfl) (fun _ => View.wordExact_bits rfl) (owedL c []) (mayWait_owedL c _ [] (by decide)) (mayWait_owedL c _ [] (by decide))
    _ (fun k => trip7 c _ _ _ _ k)) $$ [Hg5 Hwk]
  · isplitr; · iexact HL
    isplitl [Hg5] <;> iassumption
  iintro ⟨Hg5, Hwk⟩
  unfold work
  icases Hwk with ⟨Hkit, HO⟩
  -- transfer 0 has left
  iapply (wp_wait_send m c 0 (sendQ 0) rfl (srcw := gHalf (k0_off1 c) (k0_off1_inb c))
    (dstw := xHalf ![0, 0] inb_S2048x8192_S1024x8192_0_0) (hsrc := View.wordExact_bits rfl) (hdst := View.wordExact_bits rfl) rfl) $$ [Hcs0 HO HaS0]
  · isplitr; · iexact HR
    isplitl [Hcs0]; · iexact Hcs0
    isplitl [HO] <;> iassumption
  iintro ⟨HO, HvS0⟩
  -- transfer 3 has left
  iapply (wp_wait_send m c 3 (sendQ 3) rfl (srcw := gHalf (k0_off2 c) (k0_off2_inb c))
    (dstw := xHalf ![1024, 0] inb_S2048x8192_S1024x8192_1024_0) (hsrc := View.wordExact_bits rfl) (hdst := View.wordExact_bits rfl) rfl) $$ [Hcs3 HO HaS3]
  · isplitr; · iexact HR
    isplitl [Hcs3]; · iexact Hcs3
    isplitl [HO] <;> iassumption
  iintro ⟨HO, HvS3⟩
  -- transfer 1 has left
  iapply (wp_wait_send m c 1 (sendQ 1) rfl (srcw := gHalf (k0_off5 c 0#32) (k0_off5_inb c 0))
    (dstw := gHalf (k0_off5 c 0#32) (k0_off5_inb c 0)) (hsrc := View.wordExact_bits rfl) (hdst := View.wordExact_bits rfl) rfl) $$ [Hcs1 HO HaS1]
  · isplitr; · iexact HR
    isplitl [Hcs1]; · iexact Hcs1
    isplitl [HO] <;> iassumption
  iintro ⟨HO, HvS1⟩
  -- transfer 4 has left
  iapply (wp_wait_send m c 4 (sendQ 4) rfl (srcw := gHalf (k0_off6 c 0#32) (k0_off6_inb c 0))
    (dstw := gHalf (k0_off6 c 0#32) (k0_off6_inb c 0)) (hsrc := View.wordExact_bits rfl) (hdst := View.wordExact_bits rfl) rfl) $$ [Hcs4 HO HaS4]
  · isplitr; · iexact HR
    isplitl [Hcs4]; · iexact Hcs4
    isplitl [HO] <;> iassumption
  iintro ⟨HO, HvS4⟩
  -- transfer 2 has left
  iapply (wp_wait_send m c 2 (sendQ 2) rfl (srcw := gHalf (k0_off5 c 1#32) (k0_off5_inb c 1))
    (dstw := gHalf (k0_off5 c 1#32) (k0_off5_inb c 1)) (hsrc := View.wordExact_bits rfl) (hdst := View.wordExact_bits rfl) rfl) $$ [Hcs2 HO HaS2]
  · isplitr; · iexact HR
    isplitl [Hcs2]; · iexact Hcs2
    isplitl [HO] <;> iassumption
  iintro ⟨HO, HvS2⟩
  -- transfer 5 has left
  iapply (wp_wait_send m c 5 (sendQ 5) rfl (srcw := gHalf (k0_off6 c 1#32) (k0_off6_inb c 1))
    (dstw := gHalf (k0_off6 c 1#32) (k0_off6_inb c 1)) (hsrc := View.wordExact_bits rfl) (hdst := View.wordExact_bits rfl) rfl) $$ [Hcs5 HO HaS5]
  · isplitr; · iexact HR
    isplitl [Hcs5]; · iexact Hcs5
    isplitl [HO] <;> iassumption
  iintro ⟨HO, HvS5⟩
  rw [wp_ret]
  imodintro
  iapply Hpost
  isplitl [HvB]; · iexact HvB
  isplitl [HvS0 HvR0 HvS1 HvR1 HvS2 HvR2 HvS3 HvR3 HvS4 HvR4 HvS5 HvR5]
  · isplitl [HvS0 HvR0]; · (isplitl [HvS0] <;> iassumption)
    isplitl [HvS1 HvR1]; · (isplitl [HvS1] <;> iassumption)
    isplitl [HvS2 HvR2]; · (isplitl [HvS2] <;> iassumption)
    isplitl [HvS3 HvR3]; · (isplitl [HvS3] <;> iassumption)
    isplitl [HvS4 HvR4]; · (isplitl [HvS4] <;> iassumption)
    isplitl [HvS5] <;> iassumption
  isplitl [Hx]; · iexact Hx
  isplitl [Hkit]; · iexact Hkit
  iexact HO

end Cert.Gather

end
-- ==== Proof.Call.lean ====
/-
# The kernel's call

What the call starts and ends with beside the window on `w`, and that the body takes the one to the other.
-/
module

public import proofs.«01_k».proof.Proof.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What device `c` has before its scratch buffers are there. -/
def start (c : Dev nD) : sProp 𝕄 :=
  iprop(records m ∗ levAts L lv ∗ gate c ∗ bigSep Finset.univ (lane c)
    ∗ (xM.view.loc (c : Thread nD τ) ↦[Finset.univ]{fullShare} xC m c) ∗ outHeld m c ∅
    ∗ semVal ((c : Thread nD τ), .dma inQ) 0 ∗ semVal ((c : Thread nD τ), .dma outQ) 0)

def Φ₀ (c : Dev nD) : sProp 𝕄 := iprop(start m c ∗ aPts c ∗ oPts c)

/-- What the memory is read from in the end: `x`, the result, and the barrier's counter. -/
def finish (c : Dev nD) : sProp 𝕄 :=
  iprop(semVal (barCell c) 0 ∗ (xM.view.loc (c : Thread nD τ) ↦[Finset.univ]{fullShare.right} xC m c)
    ∗ (outM.view.loc (c : Thread nD τ) ↦[Finset.univ]{fullShare} outT m c))

def Φ₁ (c : Dev nD) : sProp 𝕄 :=
  iprop(finish m c ∗ bigSep Finset.univ (shut (F := F) c) ∗ semVal ((c : Thread nD τ), .dma inQ) 0 ∗ semVal ((c : Thread nD τ), .dma outQ) 0
    ∗ aPts c ∗ oPts c)

/-- The call's proof data: one window, on `w`, which the body leaves as it is. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wC m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem whole_held (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Every tile is done by one of the loops. -/
theorem all_done (c : Dev nD) (t : ℕ) (ht : t < 16) : t ∈ allTiles c := by
  unfold allTiles
  rw [landRow0, landRow1, landRow2, landRow3, landRow4, landRow5]
  have hc : c.val < 4 := c.isLt
  simp only [Finset.mem_union, Finset.mem_Ico]
  omega

/-- The window's stage at device `c`, holding `X`. -/
abbrev stage (c : Dev nD) (X : cc0_stg0_0.ty.Contents (Elt F)) : sProp 𝕄 :=
  iprop(∃ f : Buf (Elt F) ((c : Thread nD τ).loc cc0_stg0_0), ⌜f = X⌝ ∗ (((c : Thread nD τ).loc cc0_stg0_0) ↦{fullShare} f))

def callPre (c : Dev nD) : sProp 𝕄 :=
  iprop(Φ₀ m c ∗ (dats m ρ 0 c).owesAt () t0_0.castSucc ∗ (∃ d, stage c ((dats m ρ 0 c).before (0 : Fin 1) t0_0 d)))

def callPost (c : Dev nD) : sProp 𝕄 :=
  iprop(Φ₁ m c ∗ (dats m ρ 0 c).owesAt () t0_0.succ ∗ stage c (wC m c))

theorem out_all (c : Dev nD) : outHeld m c (allTiles c) ⊢ (outM.view.loc (c : Thread nD τ) ↦[Finset.univ]{fullShare} outT m c : sProp 𝕄) := by
  unfold outHeld
  iintro ⟨%g, %hg, H⟩
  have h : g = outT m c := funext fun i => hg i (all_done c _ (by have h8 : (i 0).val < 8192 := (i 0).isLt; omega))
  subst h
  iexact H

set_option maxRecDepth 4000 in
theorem call (c : Dev nD) :
    callPre m ρ c ⊢ wp frame (wpE (defs₀ (F := F)) 𝒱₀ (c : Thread nD τ) none) Set.univ
      (cc0_body (F := F) xM (Memref.isWhole_whole _) wM (Memref.isWhole_whole _) outM (Memref.isWhole_whole _) gM (Memref.isWhole_whole _)
            aM (Memref.isWhole_whole _) oM (Memref.isWhole_whole _) cc0_scratch2 cc0_scratch3 cc0_scratch4 cc0_scratch5) (fun _ => callPost m ρ c) := by
  unfold callPre Φ₀ start
  iintro ⟨⟨⟨HR, HL, Hg, Hl, Hx, Ho, Hi1, Hi2⟩, Ha, Hob⟩, Hw, ⟨%d, %f, %hf, Hs⟩⟩
  have hf' : f = wC m c := by rw [hf]; unfold Dat.before; rw [if_pos (fetch0_0 t0_0)]; rfl
  subst hf'
  unfold Dat.owesAt Pipeline.owesWithin
  icases Hw with ⟨%W, %hW, HO⟩
  rw [show (dats m ρ 0 c).owed t0_0.castSucc = O₀ c from rfl]
  iapply (sound_body m c fun _ => callPost m ρ c)
  isplitl [HR HL Hg Hl Hx Ho Hi1 Hi2 Ha Hob HO Hs]
  · unfold bodyStart kit ow wPts
    isplitl [HR]; · iexact HR
    isplitl [HL]; · iexact HL
    isplitl [Hg]; · iexact Hg
    isplitl [Hl]; · iexact Hl
    isplitl [Hx]; · iexact Hx
    isplitr [HO]
    · isplitl [Hs]; · iexact Hs
      isplitl [Ha]; · iexact Ha
      isplitl [Hob]; · iexact Hob
      isplitl [Ho]; · iexact Ho
      isplitl [Hi1] <;> iassumption
    iexists W; iexact HO
  unfold bodyEnd kit ow wPts callPost Φ₁ finish Dat.owesAt Pipeline.owesWithin
  rw [show (dats m ρ 0 c).owed t0_0.succ = 0 from rfl]
  iintro ⟨HB, Hz, Hx, ⟨Hs, Ha, Hob, Ho, Hi1, Hi2⟩, ⟨%W', HO⟩⟩
  ihave Ho := (out_all m c) $$ Ho
  isplitr [HO Hs]
  · isplitl [HB Hx Ho]
    · isplitl [HB]; · iexact HB
      isplitl [Hx] <;> iassumption
    isplitl [Hz]; · iexact Hz
    isplitl [Hi1]; · iexact Hi1
    isplitl [Hi2]; · iexact Hi2
    isplitl [Ha] <;> iassumption
  isplitl [HO]
  · iexists W'
    isplitr; · ipureintro; exact fun _ _ => Or.inl trivial
    iexact HO
  iexists _
  isplitr; · (ipureintro; rfl)
  iexact Hs

set_option maxRecDepth 4000 in
/-- The body's obligation to the pipeline, on device `c`. -/
theorem body_obligation (c : Dev nD) : BodyObligation (dats (F := F) m ρ 0 c) (defs₀ (F := F)) 𝒱₀ () Set.univ := fun t => by
  rw [fin_N0 t]
  rw [bigSep_W0, bigSep_W0]
  simp only [whole_held]
  exact call m ρ c

end Cert.Gather

end
-- ==== Proof.Deal.lean ====
/-
# What the launch deals

From zero counters and fresh tokens: every cell's invariant for all devices, and to each device its places, the tokens of the
duties it pays itself, and the credits of the units the others owe it.
-/
module

public import proofs.«01_k».proof.Proof.Call

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores: those of the transfers and of the local copies. -/
abbrev osem : Fin 14 → SemLoc sig := fun k => .dma ⟨k.val + 1, by have := k.isLt; show k.val + 1 < 15; omega⟩

theorem ownSemFacts : Pipeline.OwnSemFacts cfg0.spec osem := by decide

theorem kcell_injective : Function.Injective (kcell : Dev nD × Fin 13 → GSem nD τ sig) := by
  rintro ⟨c, k⟩ ⟨c', k'⟩ h
  have hc : c = c' := congrArg (fun g : GSem nD τ sig => g.1.1) h
  have hk : csem k = csem k' := congrArg Prod.snd h
  have hinj : ∀ a b : Fin 13, csem a = csem b → a = b := by decide +kernel
  exact Prod.ext hc (hinj k k' hk)

def ringCells : Finset (GSem nD τ sig) := Finset.univ.map ⟨kcell, kcell_injective⟩

/-- The tokens by the device that pays: its two signals', its six transfers' on its own send cells, and on the receive cells
    of the devices they go to. -/
def tokOf (ck : Dev nD × Fin 14) : GSem nD τ sig × ℕ × Bool :=
  if ck.2.val = 0 then (barCell (nxt ck.1), 0, false)
  else if ck.2.val = 1 then (barCell (prv ck.1), 0, true)
  else if h : ck.2.val < 8 then (sendCell ck.1 ⟨ck.2.val - 2, by omega⟩, 0, false)
  else (recvCell (tgt ck.1 ⟨ck.2.val - 8, by have := ck.2.isLt; omega⟩) ⟨ck.2.val - 8, by have := ck.2.isLt; omega⟩, 0, false)

theorem tokOf_injective : Function.Injective tokOf := by
  have key : ∀ (c c' : Dev nD) (k k' : Fin 14), ((tokOf (c, k)).1.1.1, (tokOf (c, k)).1.2, (tokOf (c, k)).2.2) = ((tokOf (c', k')).1.1.1, (tokOf (c', k')).1.2, (tokOf (c', k')).2.2) → c = c' ∧ k = k' := by
    decide +kernel
  rintro ⟨c, k⟩ ⟨c', k'⟩ h
  have := key c c' k k' (by rw [h])
  exact Prod.ext this.1 this.2

def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

/-! ## The ghost state -/

/-- The tokens device `c` pays with. -/
def payToks (c : Dev nD) : sProp 𝕄 :=
  bigSep Finset.univ fun k : Fin 14 => dutyTok ER (tokOf (c, k)).1 (tokOf (c, k)).2.1 (tokOf (c, k)).2.2

/-- Its places at its own cells. -/
def places (c : Dev nD) : sProp 𝕄 := bigSep Finset.univ fun k : Fin 13 => atPos ER (kcell (c, k)) 0 ∅ 0

def G (c : Dev nD) : sProp 𝕄 :=
  iprop((bigSep Finset.univ fun k : Fin 13 => roundState ER (ringRd m) (kcell (c, k)) 0)
    ∗ (bigSep Finset.univ fun k : Fin 13 => reached ER (kcell (c, k)) 0) ∗ places c ∗ payToks c)

/-- What a device has of its own at launch, beside the records. -/
def own₀ (c : Dev nD) : sProp 𝕄 :=
  iprop((places c ∗ payToks c) ∗ semVal ((c : Thread nD τ), .dma inQ) 0 ∗ semVal ((c : Thread nD τ), .dma outQ) 0)

def G' (c : Dev nD) : sProp 𝕄 := iprop(records m ∗ own₀ c)

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks c := by
    unfold ringToks payToks; rw [bigSep_map, bigSep_univ_prod]; rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hr]; · iexact Hr
  isplitl [Hat] <;> iassumption

omit [FloatOps F] in
theorem bigSep_fin13 (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

omit [FloatOps F] in
theorem bigSep_fin14 (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

omit [FloatOps F] in
/-- The kernel's own counters at zero: those of the transfers, then those of the local copies. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0
      ∗ semVal (sendCell c 5) 0 ∗ semVal (recvCell c 0) 0 ∗ semVal (recvCell c 1) 0 ∗ semVal (recvCell c 2) 0 ∗ semVal (recvCell c 3) 0
      ∗ semVal (recvCell c 4) 0 ∗ semVal (recvCell c 5) 0 ∗ semVal ((c : Thread nD τ), .dma inQ) 0 ∗ semVal ((c : Thread nD τ), .dma outQ) 0) := by
  rw [Pipeline.ownSems0_eq_of_list c osem [0, 1, 2, 3, 4, 5, 6, 7, 8, 9, 10, 11, 12, 13] (by decide) (by decide)]; rfl

omit [FloatOps F] in
/-- The one counter outside the kernel's scope is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ iprop((bigSep Finset.univ fun k : Fin 13 => (semVal (kcell (c, k)) 0 : sProp 𝕄))
        ∗ semVal ((c : Thread nD τ), .dma inQ) 0 ∗ semVal ((c : Thread nD τ), .dma outQ) 0) := by
  rw [ownSems0_eq, unscopedSems0_eq, bigSep_fin13]
  iintro ⟨⟨S0, S1, S2, S3, S4, S5, R0, R1, R2, R3, R4, R5, Hi, Ho⟩, HB⟩
  isplitr [Hi Ho]
  · isplitl [HB]; · iexact HB
    isplitl [S0]; · iexact S0
    isplitl [S1]; · iexact S1
    isplitl [S2]; · iexact S2
    isplitl [S3]; · iexact S3
    isplitl [S4]; · iexact S4
    isplitl [S5]; · iexact S5
    isplitl [R0]; · iexact R0
    isplitl [R1]; · iexact R1
    isplitl [R2]; · iexact R2
    isplitl [R3]; · iexact R3
    isplitl [R4]; · iexact R4
    iexact R5
  isplitl [Hi] <;> iassumption

omit [FloatOps F] in
/-- One device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 13 => recOf m (kcell (c, k))) ∗ own₀ c) := by
  unfold G own₀ recOf
  iintro ⟨Hos, Hus, Hst, Hr, Hat, Htok⟩
  ihave Hv := (sems0 (F := F) c) $$ [Hos Hus]
  · isplitl [Hos] <;> iassumption
  icases Hv with ⟨Hv, Hi, Ho⟩
  imod (show iprop((bigSep Finset.univ fun k : Fin 13 => semVal (kcell (c, k)) 0) ∗ bigSep Finset.univ fun k : Fin 13 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  rw [bigSep_sep']
  isplitl [Hinv Hr]
  · isplitl [Hinv] <;> iassumption
  isplitl [Hat Htok]
  · isplitl [Hat] <;> iassumption
  isplitl [Hi] <;> iassumption

omit [FloatOps F] in
/-- The records are every device's. -/
theorem regroup :
    (bigSep Finset.univ fun c : Dev nD => iprop((bigSep Finset.univ fun k : Fin 13 => recOf m (kcell (c, k))) ∗ own₀ c) : sProp 𝕄)
      ⊢ bigSep Finset.univ (G' m) := by
  rw [bigSep_sep', ← bigSep_univ_prod (fun ck : Dev nD × Fin 13 => (recOf m (kcell ck) : sProp 𝕄))]
  show iprop(records m ∗ bigSep Finset.univ (own₀ (F := F))) ⊢ _
  refine (sep_mono_left (BI.bigSep_of_persistent (Finset.univ : Finset (Dev nD)) (records m))).trans ?_
  rw [← bigSep_sep']
  exact bigSep_mono fun c _ => BI.Entails.refl _

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem barCell_inj {a b : Dev nD} (h : barCell a = barCell b) : a = b := congrArg (fun g : GSem nD τ sig => g.1.1) h
theorem recvCell_inj {a b : Dev nD} {i j : Fin 6} (h : recvCell a i = recvCell b j) : a = b ∧ i = j := by
  refine ⟨congrArg (fun g : GSem nD τ sig => g.1.1) h, ?_⟩
  have h' : (SemLoc.dma (recvQ i) : SemLoc sig) = .dma (recvQ j) := congrArg Prod.snd h
  injection h' with h'
  have h'' : 7 + i.val = 7 + j.val := congrArg Fin.val h'
  exact Fin.ext (by omega)
theorem recv_bar {a b : Dev nD} {j : Fin 6} (h : recvCell a j = barCell b) : False := by
  have h' : (SemLoc.dma (recvQ j) : SemLoc sig) = .reg barS := congrArg Prod.snd h
  cases h'

theorem owedL_bar (d c : Dev nD) (js : List (Fin 6)) : owedL d js (barCell c) () = 0 := by
  by_contra h
  obtain ⟨j, -, e⟩ := owedL_pos (Nat.pos_of_ne_zero h)
  exact recv_bar e.symm

theorem owedL_recv (d c : Dev nD) (j : Fin 6) : ∀ js : List (Fin 6), js.Nodup →
    owedL d js (recvCell c j) () = if j ∈ js ∧ d = org c j then N else 0
  | [], _ => by
    rw [if_neg (fun h => absurd h.1 List.not_mem_nil)]; rfl
  | i :: js, hn => by
    have ih := owedL_recv d c j js (List.nodup_cons.mp hn).2
    show (owedL d js + tallyAt (recvCell (tgt d i) i) () N) (recvCell c j) () = _
    rw [Pi.add_apply, Finsupp.add_apply, ih, tallyAt_apply]
    by_cases hi : i = j
    · subst hi
      rw [if_neg (fun h => (List.nodup_cons.mp hn).1 h.1), Nat.zero_add]
      by_cases hd : d = org c i
      · subst hd
        rw [tgt_org, if_pos ⟨rfl, rfl⟩, if_pos ⟨List.mem_cons_self, rfl⟩]
      · rw [if_neg (fun h => hd (by rw [(recvCell_inj h.1).1, org_tgt])), if_neg (fun h => hd h.2)]
    · rw [if_neg (fun h : recvCell c j = recvCell (tgt d i) i ∧ () = () => hi (recvCell_inj h.1).2.symm), Nat.add_zero]
      have : (j ∈ i :: js) ↔ j ∈ js := by rw [List.mem_cons]; exact ⟨fun h => h.resolve_left fun e => hi e.symm, Or.inr⟩
      simp only [this]

/-- Device `d` owes device `c`'s barrier a unit for each side on which they are neighbours. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, owedL_bar, tallyAt_apply, tallyAt_apply, Nat.zero_add]
  congr 1
  · by_cases h : d = prv c
    · subst h; rw [nxt_prv, if_pos ⟨rfl, rfl⟩, if_pos rfl]
    · rw [if_neg (fun h' => h (by rw [barCell_inj h'.1, prv_nxt])), if_neg h]
  · by_cases h : d = nxt c
    · subst h; rw [prv_nxt, if_pos ⟨rfl, rfl⟩, if_pos rfl]
    · rw [if_neg (fun h' => h (by rw [barCell_inj h'.1, nxt_prv])), if_neg h]

theorem owed_recv (d c : Dev nD) (j : Fin 6) : O₀ d (recvCell c j) () = if d = org c j then N else 0 := by
  unfold O₀ O₁
  rw [Pi.add_apply, Finsupp.add_apply, Pi.add_apply, Finsupp.add_apply, owedL_recv d c j order (by decide), tallyAt_apply, tallyAt_apply,
    if_neg (fun h : recvCell c j = barCell (nxt d) ∧ () = () => recv_bar h.1), if_neg (fun h : recvCell c j = barCell (prv d) ∧ () = () => recv_bar h.1),
    Nat.add_zero]
  have hj : j ∈ order := by revert j; decide
  simp only [hj, true_and]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (j : Fin 6) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (org c j) fun _ => N, if_pos (Finset.mem_univ _)]

def recvSem : Fin 6 ↪ SemLoc sig := ⟨fun j => .dma (recvQ j), by decide⟩

omit [FloatOps F] in
theorem creds (c : Dev nD) :
    (Pipeline.launchCred O₀ c : sProp 𝕄) ⊢ iprop(cred (tallyAt (barCell c) () 2) ∗ bigSep Finset.univ fun j : Fin 6 => cred (tallyAt (recvCell c j) () N)) := by
  unfold Pipeline.launchCred
  rw [bigSep_univ_at _ (SemLoc.reg barS), launch_bar]
  refine sep_mono_right ?_
  have hsub : Finset.univ.map recvSem ⊆ Finset.univ.erase (SemLoc.reg barS) := by
    intro x hx
    obtain ⟨j, -, rfl⟩ := Finset.mem_map.mp hx
    refine Finset.mem_erase.mpr ⟨fun h => ?_, Finset.mem_univ _⟩
    have h' : (SemLoc.dma (recvQ j) : SemLoc sig) = .reg barS := h
    cases h'
  refine (bigSep_subset hsub).trans ?_
  rw [bigSep_map]
  exact bigSep_mono fun j _ => Entails.of_eq (congrArg cred (launch_recv c j))

/-! ## The landing regions -/

omit [FloatOps F] in
theorem regions (c : Dev nD) (f : Buf (Elt F) ((c : Thread nD τ).loc main_v1_1)) :
    (((c : Thread nD τ).loc main_v1_1) ↦{fullShare} f : sProp 𝕄) ⊢ bigSep Finset.univ fun j : Fin 6 => iprop(∃ f, landPts (F := F) c j fullShare f) := by
  have hdisj : ∀ j ∈ (Finset.univ : Finset (Fin 6)), ∀ j' ∈ (Finset.univ : Finset (Fin 6)), j ≠ j' → Disjoint (landM c j).view.set (landM c j').view.set := by
    intro j _ j' _ hne
    have hrow : landRow c j + 1024 ≤ landRow c j' ∨ landRow c j' + 1024 ≤ landRow c j := by
      have key : ∀ (c : Dev nD) (j j' : Fin 6), j ≠ j' → landRow c j + 1024 ≤ landRow c j' ∨ landRow c j' + 1024 ≤ landRow c j := by decide
      exact key c j j' hne
    refine Finset.disjoint_left.mpr fun i hi hi' => ?_
    rw [View.set_slice_whole] at hi hi'
    have h1 := Rect.mem_set_unit.mp hi 0
    have h2 := Rect.mem_set_unit.mp hi' 0
    have a1 : landRow c j ≤ (i 0).val := h1.1
    have a2 : (i 0).val < landRow c j + 1024 := h1.2
    have b1 : landRow c j' ≤ (i 0).val := h2.1
    have b2 : (i 0).val < landRow c j' + 1024 := h2.2
    omega
  refine (pointsTo_split_subset (ℓ := (c : Thread nD τ).loc main_v1_1) (I := Finset.univ.biUnion fun j : Fin 6 => (landM c j).view.set) (q := fullShare) (f := f) (Finset.subset_univ _)).1.trans ?_
  iintro ⟨H, -⟩
  ihave H := (Entails.of_eq (pointsTo_biUnion (q := fullShare) (f := f) Finset.univ (fun j : Fin 6 => (landM c j).view.set) hdisj)) $$ H
  have hex : (bigSep Finset.univ fun j : Fin 6 => (landPts c j fullShare f : sProp 𝕄)) ⊢ bigSep Finset.univ fun j : Fin 6 => iprop(∃ f, landPts (F := F) c j fullShare f) :=
    bigSep_mono fun j _ => exists_intro (Φ := fun f => landPts (F := F) c j fullShare f) f
  iapply hex
  iexact H

end Cert.Gather

end
-- ==== Proof.Run.lean ====
/-
# The run

From any memory the kernel runs to the end on all devices: `x` and `w` are as they were, the result holds on each device the
rectified product of all of `x` and the device's columns, and every counter is zero.
-/
module

public import proofs.«01_k».proof.Proof.Deal
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The start -/

omit [FloatOps F] in
theorem lanes (c : Dev nD) :
    iprop(places (F := F) c ∗ payToks c ∗ cred (tallyAt (barCell c) () 2) ∗ (bigSep Finset.univ fun j : Fin 6 => cred (tallyAt (recvCell c j) () N))
        ∗ bigSep Finset.univ fun j : Fin 6 => iprop(∃ f, landPts (F := F) c j fullShare f))
      ⊢ iprop(gate c ∗ bigSep Finset.univ (lane c)) := by
  have hp : places (F := F) c ⊢ iprop(atPos ER (barCell c) 0 ∅ 0 ∗ (bigSep Finset.univ fun j : Fin 6 => atPos ER (sendCell c j) 0 ∅ 0)
      ∗ bigSep Finset.univ fun j : Fin 6 => atPos ER (recvCell c j) 0 ∅ 0) := by
    unfold places
    rw [bigSep_fin13, bigSep_fin6, bigSep_fin6]
    iintro ⟨HB, S0, S1, S2, S3, S4, S5, HR⟩
    isplitl [HB]; · iexact HB
    isplitr [HR]
    · isplitl [S0]; · iexact S0
      isplitl [S1]; · iexact S1
      isplitl [S2]; · iexact S2
      isplitl [S3]; · iexact S3
      isplitl [S4]; · iexact S4
      iexact S5
    iexact HR
  have ht : payToks (F := F) c ⊢ iprop((dutyTok ER (barCell (nxt c)) 0 false ∗ dutyTok ER (barCell (prv c)) 0 true)
      ∗ (bigSep Finset.univ fun j : Fin 6 => dutyTok ER (sendCell c j) 0 false)
      ∗ bigSep Finset.univ fun j : Fin 6 => dutyTok ER (recvCell (tgt c j) j) 0 false) := by
    unfold payToks
    rw [bigSep_fin14, bigSep_fin6, bigSep_fin6]
    iintro ⟨HN, HP, S0, S1, S2, S3, S4, S5, HR⟩
    isplitl [HN HP]
    · isplitl [HN]; · iexact HN
      iexact HP
    isplitr [HR]
    · isplitl [S0]; · iexact S0
      isplitl [S1]; · iexact S1
      isplitl [S2]; · iexact S2
      isplitl [S3]; · iexact S3
      isplitl [S4]; · iexact S4
      iexact S5
    iexact HR
  unfold gate lane
  rw [bigSep_sep', bigSep_sep', bigSep_sep', bigSep_sep', bigSep_sep']
  iintro ⟨Hp, Ht, HcB, Hcr, Hl⟩
  ihave Hp := hp $$ Hp
  ihave Ht := ht $$ Ht
  icases Hp with ⟨HaB, HaS, HaR⟩
  icases Ht with ⟨⟨HN, HP⟩, HtS, HtR⟩
  isplitl [HaB HN HP HcB]
  · isplitl [HaB]; · iexact HaB
    isplitl [HP]; · iexact HP
    isplitl [HN] <;> iassumption
  isplitl [HaS]; · iexact HaS
  isplitl [HaR]; · iexact HaR
  isplitl [HtS]; · iexact HtS
  isplitl [HtR]; · iexact HtR
  isplitl [Hcr] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp 𝕄)
    = Pipeline.unscopedRest cfg0.spec c (fun b => m ((c : Thread nD τ).loc b)) from Pipeline.unscopedRestP_none _ _ _, unscopedRest0_eq]
  unfold G' own₀
  iintro ⟨⟨Hx, Ho, Hg⟩, Hlev, Hcr, -, HR, ⟨Hp, Ht⟩, Hi1, Hi2⟩
  ihave Hc := (creds (F := F) c) $$ Hcr
  icases Hc with ⟨HcB, HcR⟩
  ihave Hl := (regions c _) $$ Hg
  ihave Hgl := (lanes (F := F) c) $$ [Hp Ht HcB HcR Hl]
  · isplitl [Hp]; · iexact Hp
    isplitl [Ht]; · iexact Ht
    isplitl [HcB]; · iexact HcB
    isplitl [HcR] <;> iassumption
  icases Hgl with ⟨Hg, Hl⟩
  imodintro
  isplitl
  · unfold start outHeld
    isplitl [HR]; · iexact HR
    isplitl [Hlev]; · iexact Hlev
    isplitl [Hg]; · iexact Hg
    isplitl [Hl]; · iexact Hl
    isplitl [Hx]; · iexact Hx
    isplitl [Ho]
    · iexists (m ((c : Thread nD τ).loc main_v1_0))
      isplitr; · (ipureintro; exact fun i hi => absurd hi (Finset.notMem_empty _))
      iexact Ho
    isplitl [Hi1] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ aPts oPts
  iintro ⟨Hs, -, ⟨%f, Ha⟩, ⟨%g, Hb⟩⟩
  isplitl [Hs]; · iexact Hs
  isplitl [Ha]
  · iexists f; iexact Ha
  iexists g; iexact Hb

theorem phi1_exit (c : Dev nD) :
    (dats m ρ 0 c).Φ (Fin.last cfg0.N) ⊢ iprop(finish m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ shut aPts oPts
  rw [bigSep_fin6]
  iintro ⟨Hf, ⟨⟨S0, R0⟩, ⟨S1, R1⟩, ⟨S2, R2⟩, ⟨S3, R3⟩, ⟨S4, R4⟩, ⟨S5, R5⟩⟩, Hi, Ho, ⟨%f, Ha⟩, ⟨%g, Hb⟩⟩
  isplitl [Hf]; · iexact Hf
  isplitr [Ha Hb]
  · isplitl [S0]; · iexact S0
    isplitl [S1]; · iexact S1
    isplitl [S2]; · iexact S2
    isplitl [S3]; · iexact S3
    isplitl [S4]; · iexact S4
    isplitl [S5]; · iexact S5
    isplitl [R0]; · iexact R0
    isplitl [R1]; · iexact R1
    isplitl [R2]; · iexact R2
    isplitl [R3]; · iexact R3
    isplitl [R4]; · iexact R4
    isplitl [R5]; · iexact R5
    isplitl [Hi] <;> iassumption
  isplitl [Ha]
  · iexists f; iexact Ha
  iexists g; iexact Hb

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_launch c _ (by fin_cases w <;> fin_cases s <;> decide)
    · exact mayWait_owedL c _ [] (fun j hj => absurd hj List.not_mem_nil)

theorem share_eq (c : Dev nD) (w : Fin cfg0.W) : (dats m ρ 0 c).share w = fullShare := by unfold Dat.share; split <;> rfl

/-! ## The run -/

/-- What is read of device `c`'s memory in the end, beside the window's array. -/
def Read (c : Dev nD) (s : MemSt nD τ sig (Elt F)) : Prop :=
  (s.mem ((c : Thread nD τ).loc main_arg0) = m ((c : Thread nD τ).loc main_arg0) ∧ s.mem ((c : Thread nD τ).loc main_v1_0) = outT m c)
    ∧ ∀ sm : SemLoc sig, sm.isScoped .tc = false → s.sem ((c.tc : Thread nD τ), sm) = 0

theorem read_finish (c : Dev nD) (s' : Phys nD τ sig (Elt F)) :
    iprop(finish m c ∗ emp ∗ SI s') ⊢ |={Set.univ}=> iprop(⌜Read m c s'.mem⌝ ∗ SI s' : sProp 𝕄) := by
  unfold finish
  iintro ⟨⟨HB, Hx, Ho⟩, -, HSI⟩
  icombine HSI Hx gives %hx
  icombine HSI Ho gives %ho
  ihave Hu := (Entails.of_eq (unscopedSems0_eq (F := F) c).symm) $$ HB
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hx, Buf.eq_of_forall_mem_univ ho⟩, hs⟩
  iexact HSI

/-- What every run ends with. -/
def Ends (r : PUnit × MemSt nD τ sig (Elt F)) : Prop :=
  ∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1_0) = outT m c

set_option maxRecDepth 8000 in
/-- From any memory with zero counters, over any float values, the kernel ends on every device: `x` and `w` unchanged, the
    result at `outT`, and all counters zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_ring m) $$ HX with HG
      imodintro
      isplitl [HP] <;> iassumption)
    (hglob := glob m)
    (hA := fun _ _ => rfl) (hpf := fun _ k => k.elim0)
    (X := start m) (Y := finish m) (Z := fun _ => iprop(emp))
    (hX := start_intro m ρ) (hin := phi0_intro m ρ) (hout := phi1_exit m ρ)
    (QY := Read m) (hY := read_finish m)
    (hQ := fun s h hs => ⟨fun c => ⟨(h c).2.2.1.1, ((h c).1 (0 : Fin 1)).trans ((dats (F := F) m ρ 0 c).arrAt_in (0 : Fin 1) rfl _), (h c).2.2.1.2⟩,
      sem_eq_zero hs fun c => (h c).2.2.2⟩)

end Cert.Gather

end
-- ==== Proof.BlockValue.lean ====
/-
# One block of the product, over the reals

What the body stores for 512 rows `X` and the columns `W`: at row `r` and column `n` the larger of `∑ k, X r k * W k n` and 0.
-/
module

public import proofs.«01_k».proof.Proof.Trip
public import Idealize.ShloMosaic.Lib.MatmulPlain
public import Idealize.ShloMosaic.Lib.ValueIdx
public import Idealize.ShloMosaic.Lib.Pipeline.Value

@[expose] public section

noncomputable section

namespace Cert.Gather

open Cert.KernelIdeal Cert.KernelIdeal.Gen
open Idealize.ShloMosaic Idealize.ShloMosaic.TcCoe Idealize.ShloMosaic.ValueIdx

/-- The body's contraction is the plain product of a 512 by 8192 and an 8192 by 1024 matrix. -/
theorem dot_plain : dot_S512x8192_S8192x1024_S512x1024_1_0_0_1_n_n = DotDims.plain 512 8192 1024 := rfl

/-- The stored block at row `r`, column `n`: the rectified sum of products. -/
theorem pay_apply (X : Vec Ideal S512x8192 .f32) (W : Vec Ideal S8192x1024 .f32) (r : Fin 512) (n : Fin 1024) :
    k0_pay1 (F := Ideal) X W (ix2 r n) = max (∑ k : Fin 8192, X (ix2 r k) * W (ix2 k n)) (0 : EReal) := by
  unfold k0_pay1
  simp only [shapeCast_self]
  rw [maximumf_apply, broadcast_apply]
  simp only [matmul]
  rw [dot_plain, Ideal.matmul_plain_apply, constant_apply]
  show max (Ideal.ofBits .f32 0x00000000#32 + ∑ k : Fin 8192, X (ix2 r k) * W (ix2 k n)) (Ideal.ofBits .f32 0x00000000#32) = _
  rw [Ideal.ofBits_zero_f32, zero_add]

end Cert.Gather

end
-- ==== Proof.HeldValue.lean ====
/-
# What the result holds on a device, over the reals

Row `r` lies in block `r / 512`, so the blocks together are one product: all of `x` times the device's columns, rectified.
-/
module

public import proofs.«01_k».proof.Proof.BlockValue

@[expose] public section

noncomputable section

namespace Cert.Gather

open Cert.KernelIdeal Cert.KernelIdeal.Gen
open Idealize.ShloMosaic Idealize.ShloMosaic.TcCoe Idealize.ShloMosaic.ValueIdx

variable (m : (ℓ : Loc nD τ sig) → Buf (Elt Ideal) ℓ)

/-- The columns the body reads on device `c` are the whole second argument. -/
theorem wC_eq (c : Dev nD) : wC m c = m ((c : Thread nD τ).loc main_arg1) := by
  refine funext fun i => ?_
  show m ((c : Thread nD τ).loc main_arg1) _ = m ((c : Thread nD τ).loc main_arg1) i
  refine congrArg _ (funext fun b => Fin.ext ?_)
  match b with
  | ⟨0, _⟩ => show 0 * 8192 + 1 * (i 0).val = (i 0).val; omega
  | ⟨1, _⟩ => show 0 * 1024 + 1 * (i 1).val = (i 1).val; omega

/-- The result on device `c` at row `r`, column `n`: row `r` of all of `x` against the device's column `n`, rectified. -/
theorem outT_apply (c : Dev nD) (r : Fin 8192) (n : Fin 1024) :
    outT m c (ix2 r n) = max (∑ k : Fin 8192, gath m (ix2 r k) * m ((c : Thread nD τ).loc main_arg1) (ix2 k n)) (0 : EReal) := by
  have hr : 512 * (r.val / 512) + r.val % 512 = r.val := by omega
  show tile m c (r.val / 512) (ix2 ⟨r.val % 512, Nat.mod_lt _ (by decide)⟩ n) = _
  unfold tile
  rw [pay_apply, wC_eq]
  refine congrArg (fun s : EReal => max s 0) (Finset.sum_congr rfl fun k _ => ?_)
  refine congrArg (fun x : EReal => x * m ((c : Thread nD τ).loc main_arg1) (ix2 k n)) ?_
  show gath m _ = gath m _
  refine congrArg _ (funext fun b => Fin.ext ?_)
  match b with
  | ⟨0, _⟩ => show (512 * (r.val / 512) + r.val % 512) % 8192 = r.val; omega
  | ⟨1, _⟩ => rfl

end Cert.Gather

end
-- ==== Proof.RefValue.lean ====
/-
# What the reference computes, over the reals

`maximum (x @ w) 0` at row `r` and column `n`: the larger of `∑ k, x r k * w k n` and 0.
-/
module

public import proofs.«01_k».proof.Proof.Gen.ReferenceIdeal.Run
public import Idealize.ShloMosaic.Lib.StackMember
public import Idealize.ShloMosaic.Lib.ValueIdx

@[expose] public section

noncomputable section

namespace Cert.Gather

open Cert.ReferenceIdeal Cert.ReferenceIdeal.Gen
open Idealize.ShloMosaic Idealize.ShloMosaic.TcCoe Idealize.ShloMosaic.ValueIdx

/-- The reference's value of its two arguments. -/
def refV (X : FVec Ideal S8192x8192 .f32) (W : FVec Ideal S8192x4096 .f32) : FVec Ideal S8192x4096 .f32 :=
  maximumf (Host.dotGeneral dot_S8192x8192_S8192x4096_S8192x4096_1_0_0_1_n_n none X W)
    (broadcastInDim S8192x4096 ![] bcast_S_S8192x4096 (constant S_ .f32 0x00000000#32))

/-- The reference's contraction is the plain product of an 8192 by 8192 and an 8192 by 4096 matrix. -/
theorem refDot_plain : dot_S8192x8192_S8192x4096_S8192x4096_1_0_0_1_n_n = DotDims.plain 8192 8192 4096 := rfl

/-- The reference's value at row `r`, column `n`: the rectified sum of products. -/
theorem refV_apply (X : FVec Ideal S8192x8192 .f32) (W : FVec Ideal S8192x4096 .f32) (r : Fin 8192) (n : Fin 4096) :
    refV X W (ix2 r n) = max (∑ k : Fin 8192, X (ix2 r k) * W (ix2 k n)) (0 : EReal) := by
  unfold refV
  rw [maximumf_apply, refDot_plain, StackMember.dotGeneral_plain_apply]
  exact congrArg (fun z : EReal => max (∑ k : Fin 8192, X (ix2 r k) * W (ix2 k n)) z) Ideal.ofBits_zero_f32

end Cert.Gather

end
-- ==== Proof.Equation.lean ====
/-
# The equation

Where each device holds its block of rows of `x` and its block of columns of `w`, what the kernel leaves on it is its block of
columns of the reference's value: both are the same rectified sums.
-/
module

public import proofs.«01_k».proof.Proof.HeldValue
public import proofs.«01_k».proof.Proof.RefValue
public import Idealize.ShloMosaic.Lib.Layout

@[expose] public section

noncomputable section

namespace Cert.Gather

open Cert.KernelIdeal Cert.KernelIdeal.Gen
open Idealize.ShloMosaic Idealize.ShloMosaic.TcCoe Idealize.ShloMosaic.ValueIdx

variable (m : (ℓ : Loc nD τ sig) → Buf (Elt Ideal) ℓ)

/-- The devices' rows of `x` put one after another are `x`. -/
theorem gath_block (X : S8192x8192.Idx → EReal) (h : Layout.Tiles ⟨2, ![2048, 8192]⟩ ⟨2, ![8192, 8192]⟩ 0 4)
    (hx : ∀ c : Dev nD, m ((c : Thread nD τ).loc main_arg0) = Layout.block ⟨2, ![2048, 8192]⟩ ⟨2, ![8192, 8192]⟩ 0 4 c X h) :
    gath m = X := by
  refine funext fun i => ?_
  have hlt : (i 0).val < 8192 := (i 0).isLt
  refine (congrFun (hx ⟨(i 0).val / 2048, by show (i 0).val / 2048 < 4; omega⟩)
    (Shape.pair ⟨(i 0).val % 2048, Nat.mod_lt _ (by decide)⟩ (i 1))).trans ?_
  rw [Layout.block_apply]
  refine congrArg X (funext fun b => Fin.ext ?_)
  match b with
  | ⟨0, _⟩ =>
    refine (Layout.idx_rows_val h _ _).1.trans ?_
    show (i 0).val / 2048 * 2048 + (i 0).val % 2048 = (i 0).val
    omega
  | ⟨1, _⟩ => exact (Layout.idx_rows_val h _ _).2

/-- The result on device `c` is block `c` of the columns of the reference's value. -/
theorem outT_block (X : S8192x8192.Idx → EReal) (W : (⟨2, ![8192, 4096]⟩ : Shape).Idx → EReal)
    (h : Layout.Tiles ⟨2, ![2048, 8192]⟩ ⟨2, ![8192, 8192]⟩ 0 4) (h' : Layout.Tiles ⟨2, ![8192, 1024]⟩ ⟨2, ![8192, 4096]⟩ 1 4)
    (hx : ∀ c : Dev nD, m ((c : Thread nD τ).loc main_arg0) = Layout.block ⟨2, ![2048, 8192]⟩ ⟨2, ![8192, 8192]⟩ 0 4 c X h)
    (hw : ∀ c : Dev nD, m ((c : Thread nD τ).loc main_arg1) = Layout.block ⟨2, ![8192, 1024]⟩ ⟨2, ![8192, 4096]⟩ 1 4 c W h')
    (c : Dev nD) :
    outT m c = Layout.block ⟨2, ![8192, 1024]⟩ ⟨2, ![8192, 4096]⟩ 1 4 c (refV X W) h' := by
  have hc : c.val < 4 := c.isLt
  have hidx (r : Fin 8192) (n : Fin 1024) : h'.idx c (ix2 r n) = ix2 r (⟨1024 * c.val + n.val, by have := n.isLt; omega⟩ : Fin 4096) := by
    refine funext fun b => Fin.ext ?_
    match b with
    | ⟨0, _⟩ => exact (Layout.idx_cols_val h' c _).1
    | ⟨1, _⟩ =>
      refine (Layout.idx_cols_val h' c _).2.trans ?_
      show c.val * 1024 + n.val = 1024 * c.val + n.val
      omega
  refine funext fun i => ?_
  obtain ⟨r, n, rfl⟩ : ∃ (r : Fin 8192) (n : Fin 1024), i = ix2 r n := ⟨i 0, i 1, eq_ix2 i⟩
  rw [Layout.block_apply, hidx, refV_apply, outT_apply, gath_block m X h hx]
  refine congrArg (fun s : EReal => max s 0) (Finset.sum_congr rfl fun k _ => ?_)
  refine congrArg (fun y : EReal => X (ix2 r k) * y) ?_
  rw [hw c, Layout.block_apply, hidx]

end Cert.Gather

end
-- ==== Proof.lean ====
/-
# The certificate

The three frames, the kernel's at its own words and over the reals from the one run, the idealization's license, and the value
over the reals.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel and its idealization have one body table, -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l with
  | 0 => rfl

/-- so with the pipeline's entries too. -/
theorem defs_eq : Cert.Kernel.defs (F := Bits) = Cert.KernelIdeal.defs (F := Bits) := congrArg (Pipeline.defs Cert.Kernel.pcfgs) defs₀_eq

/-- The kernel runs to the end, its arguments unchanged and its counters zero, at its own words. -/
theorem frame_kernel : Cert.quiescent_Kernel := fun m g _ => by
  rw [defs_eq]
  exact (θ_run Cert.KernelIdeal.defs _ _).mono (fun _ h => ⟨fun c => ⟨(h.1 c).1, (h.1 c).2.1⟩, h.2⟩)
    (Cert.Gather.run_main (F := Bits) m g)

/-- The same over the reals. -/
theorem frame_ideal : Cert.quiescent_KernelIdeal := fun m g _ =>
  (θ_run Cert.KernelIdeal.defs _ _).mono (fun _ h => ⟨fun c => ⟨(h.1 c).1, (h.1 c).2.1⟩, h.2⟩) (Cert.Gather.run_main (F := Ideal) m g)

/-- Over the reals each device's result is its block of columns of the reference's value. -/
theorem value : Cert.algebraic_KernelIdeal_ReferenceIdeal := fun m g m' g' _ hm =>
  ⟨_, (θ_run Cert.KernelIdeal.defs _ _).mono
      (fun _ h c => ⟨((h.1 c).2.2).trans (Cert.Gather.outT_block m _ _ _ _ (fun c => (hm c).1) (fun c => (hm c).2) c), (h.1 c).1, (h.1 c).2.1⟩)
      (Cert.Gather.run_main (F := Ideal) m g),
    (θ_run Cert.ReferenceIdeal.defs _ _).mono (fun _ h => h 0) (Cert.ReferenceIdeal.Value.run (F := Ideal) m' g')⟩

/-- The reference runs to the end, its arguments unchanged and its counters zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  frame_kernel, frame_ideal, frame_reference, trivial, value⟩

end Cert.Proof

end
